-- ==== Defs.lean ====
def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearRefIdeal (m : (ℓ : Loc Cert.LinearRefIdeal.nD Cert.LinearRefIdeal.τ Cert.LinearRefIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_in_range [hPre_in_range : Cert.Pre_in_range.Facts] (m : (ℓ : Loc Cert.RotateIdeal.nD Cert.RotateIdeal.τ Cert.RotateIdeal.sig) → Buf (Elt Ideal) ℓ) : Prop :=
  ∀ c : Dev Cert.RotateIdeal.nD,
    (Cert.Pre_in_range.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))).1 = (fun _ => 1#1)
    ∧ (Cert.Pre_in_range.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1))).2 = (fun _ => 1#1)

def Pre_RotateRefIdeal (m : (ℓ : Loc Cert.RotateRefIdeal.nD Cert.RotateRefIdeal.τ Cert.RotateRefIdeal.sig) → Buf (Elt Ideal) ℓ) : Prop :=
  True

def Pre_RotateRefIdeal_in_range [hPre_in_range : Cert.Pre_in_range.Facts] (m : (ℓ : Loc Cert.RotateRefIdeal.nD Cert.RotateRefIdeal.τ Cert.RotateRefIdeal.sig) → Buf (Elt Ideal) ℓ) : Prop :=
  ∀ c : Dev Cert.RotateRefIdeal.nD,
    (Cert.Pre_in_range.fn (F := Ideal) (m ((c.tc : Thread Cert.RotateRefIdeal.nD Cert.RotateRefIdeal.τ).loc Cert.RotateRefIdeal.main_arg0)) (m ((c.tc : Thread Cert.RotateRefIdeal.nD Cert.RotateRefIdeal.τ).loc Cert.RotateRefIdeal.main_arg1))).1 = (fun _ => 1#1)
    ∧ (Cert.Pre_in_range.fn (F := Ideal) (m ((c.tc : Thread Cert.RotateRefIdeal.nD Cert.RotateRefIdeal.τ).loc Cert.RotateRefIdeal.main_arg0)) (m ((c.tc : Thread Cert.RotateRefIdeal.nD Cert.RotateRefIdeal.τ).loc Cert.RotateRefIdeal.main_arg1))).2 = (fun _ => 1#1)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2)
      ∧ r.2.mem ((c.tc : Thread Cert.LinearRefIdeal.nD Cert.LinearRefIdeal.τ).loc Cert.LinearRefIdeal.main_arg3) = m ((c.tc : Thread Cert.LinearRefIdeal.nD Cert.LinearRefIdeal.τ).loc Cert.LinearRefIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateIdeal_pre_in_range [hRotateIdeal : Cert.RotateIdeal.Facts] [hPre_in_range : Cert.Pre_in_range.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_in_range m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateRefIdeal [hRotateRefIdeal : Cert.RotateRefIdeal.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1))
      ∧ r.2.sem = fun _ => 0)

def quiescent_RotateRefIdeal_pre_in_range [hRotateRefIdeal : Cert.RotateRefIdeal.Facts] [hPre_in_range : Cert.Pre_in_range.Facts] : Prop :=
  ∀ (m : (ℓ : Loc Cert.RotateRefIdeal.nD Cert.RotateRefIdeal.τ Cert.RotateRefIdeal.sig) → Buf (Elt Ideal) ℓ) (g : Dev Cert.RotateRefIdeal.nD → PrngReg), Pre_RotateRefIdeal_in_range m →
    θ_run (Cert.RotateRefIdeal.defs (F := Ideal)) (onTc (τ := Cert.RotateRefIdeal.τ) (Cert.RotateRefIdeal.main (F := Ideal))) ⟨m, fun _ => 0, g⟩ (fun r => (∀ c : Dev Cert.RotateRefIdeal.nD,
      r.2.mem ((c.tc : Thread Cert.RotateRefIdeal.nD Cert.RotateRefIdeal.τ).loc Cert.RotateRefIdeal.main_arg0) = m ((c.tc : Thread Cert.RotateRefIdeal.nD Cert.RotateRefIdeal.τ).loc Cert.RotateRefIdeal.main_arg0)
      ∧ r.2.mem ((c.tc : Thread Cert.RotateRefIdeal.nD Cert.RotateRefIdeal.τ).loc Cert.RotateRefIdeal.main_arg1) = m ((c.tc : Thread Cert.RotateRefIdeal.nD Cert.RotateRefIdeal.τ).loc Cert.RotateRefIdeal.main_arg1))
      ∧ r.2.sem = fun _ => 0)

def preserves_Linear_LinearIdeal : Prop :=
  True

def algebraic_LinearIdeal_LinearRefIdeal [hLinearIdeal : Cert.LinearIdeal.Facts] [hLinearRefIdeal : Cert.LinearRefIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)
      ∧ m' ((c.tc : Thread Cert.LinearRefIdeal.nD Cert.LinearRefIdeal.τ).loc Cert.LinearRefIdeal.main_arg2) = m ((c.tc : Thread Cert.LinearIdeal.nD Cert.LinearIdeal.τ).loc Cert.LinearIdeal.main_arg2)
      ∧ m' ((c.tc : Thread Cert.LinearRefIdeal.nD Cert.LinearRefIdeal.τ).loc Cert.LinearRefIdeal.main_arg3) = m ((c.tc : Thread Cert.LinearIdeal.nD Cert.LinearIdeal.τ).loc Cert.LinearIdeal.main_arg3)) →
    ∃ (v0 : (c : Dev Cert.LinearIdeal.nD) → Buf (Elt Ideal) ((c.tc : Thread Cert.LinearIdeal.nD Cert.LinearIdeal.τ).loc Cert.LinearIdeal.main_v1)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v1) = v0 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v1) = v0 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1)
          ∧ r.2.mem ((c.tc : Thread Cert.LinearRefIdeal.nD Cert.LinearRefIdeal.τ).loc Cert.LinearRefIdeal.main_arg2) = m' ((c.tc : Thread Cert.LinearRefIdeal.nD Cert.LinearRefIdeal.τ).loc Cert.LinearRefIdeal.main_arg2)
          ∧ r.2.mem ((c.tc : Thread Cert.LinearRefIdeal.nD Cert.LinearRefIdeal.τ).loc Cert.LinearRefIdeal.main_arg3) = m' ((c.tc : Thread Cert.LinearRefIdeal.nD Cert.LinearRefIdeal.τ).loc Cert.LinearRefIdeal.main_arg3))

def preserves_Rotate_RotateIdeal : Prop :=
  True

def algebraic_RotateIdeal_RotateRefIdeal_pre_in_range [hRotateIdeal : Cert.RotateIdeal.Facts] [hRotateRefIdeal : Cert.RotateRefIdeal.Facts] [hPre_in_range : Cert.Pre_in_range.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateRefIdeal.nD Cert.RotateRefIdeal.τ Cert.RotateRefIdeal.sig) → Buf (Elt Ideal) ℓ) (g' : Dev Cert.RotateRefIdeal.nD → PrngReg), Pre_RotateIdeal_in_range m →
    (∀ c : Dev Cert.RotateIdeal.nD,
      m' ((c.tc : Thread Cert.RotateRefIdeal.nD Cert.RotateRefIdeal.τ).loc Cert.RotateRefIdeal.main_arg0) = m ((c.tc : Thread Cert.RotateIdeal.nD Cert.RotateIdeal.τ).loc Cert.RotateIdeal.main_arg0)
      ∧ m' ((c.tc : Thread Cert.RotateRefIdeal.nD Cert.RotateRefIdeal.τ).loc Cert.RotateRefIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v2_0)) (v1 : (c : Dev Cert.RotateIdeal.nD) → Buf (Elt Ideal) ((c.tc : Thread Cert.RotateIdeal.nD Cert.RotateIdeal.τ).loc Cert.RotateIdeal.main_v2_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v2_0) = v0 c
          ∧ r.2.mem ((c.tc : Thread Cert.RotateIdeal.nD Cert.RotateIdeal.τ).loc Cert.RotateIdeal.main_v2_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateRefIdeal.defs (F := Ideal)) (onTc (τ := Cert.RotateRefIdeal.τ) (Cert.RotateRefIdeal.main (F := Ideal))) ⟨m', fun _ => 0, g'⟩ (fun r => ∀ c : Dev Cert.RotateRefIdeal.nD,
          r.2.mem ((c.tc : Thread Cert.RotateRefIdeal.nD Cert.RotateRefIdeal.τ).loc Cert.RotateRefIdeal.main_v17_0) = v0 c
          ∧ r.2.mem ((c.tc : Thread Cert.RotateRefIdeal.nD Cert.RotateRefIdeal.τ).loc Cert.RotateRefIdeal.main_v18) = v1 c
          ∧ r.2.mem ((c.tc : Thread Cert.RotateRefIdeal.nD Cert.RotateRefIdeal.τ).loc Cert.RotateRefIdeal.main_arg0) = m' ((c.tc : Thread Cert.RotateRefIdeal.nD Cert.RotateRefIdeal.τ).loc Cert.RotateRefIdeal.main_arg0)
          ∧ r.2.mem ((c.tc : Thread Cert.RotateRefIdeal.nD Cert.RotateRefIdeal.τ).loc Cert.RotateRefIdeal.main_arg1) = m' ((c.tc : Thread Cert.RotateRefIdeal.nD Cert.RotateRefIdeal.τ).loc Cert.RotateRefIdeal.main_arg1))

def Claim : Prop :=
  ∃ (hLinear : Cert.Linear.Facts) (hLinearIdeal : Cert.LinearIdeal.Facts) (hLinearRefIdeal : Cert.LinearRefIdeal.Facts) (hRotate : Cert.Rotate.Facts) (hRotateIdeal : Cert.RotateIdeal.Facts) (hRotateRefIdeal : Cert.RotateRefIdeal.Facts) (hPre_in_range : Cert.Pre_in_range.Facts),
    quiescent_Linear (hLinear := hLinear)
    ∧ quiescent_LinearIdeal (hLinearIdeal := hLinearIdeal)
    ∧ quiescent_LinearRefIdeal (hLinearRefIdeal := hLinearRefIdeal)
    ∧ quiescent_Rotate (hRotate := hRotate)
    ∧ quiescent_RotateIdeal (hRotateIdeal := hRotateIdeal)
    ∧ quiescent_RotateIdeal_pre_in_range (hRotateIdeal := hRotateIdeal) (hPre_in_range := hPre_in_range)
    ∧ quiescent_RotateRefIdeal (hRotateRefIdeal := hRotateRefIdeal)
    ∧ quiescent_RotateRefIdeal_pre_in_range (hRotateRefIdeal := hRotateRefIdeal) (hPre_in_range := hPre_in_range)
    ∧ preserves_Linear_LinearIdeal
    ∧ algebraic_LinearIdeal_LinearRefIdeal (hLinearIdeal := hLinearIdeal) (hLinearRefIdeal := hLinearRefIdeal)
    ∧ preserves_Rotate_RotateIdeal
    ∧ algebraic_RotateIdeal_RotateRefIdeal_pre_in_range (hRotateIdeal := hRotateIdeal) (hRotateRefIdeal := hRotateRefIdeal) (hPre_in_range := hPre_in_range)
-- ==== Pre_in_range.lean ====
abbrev S1x8192x7424 : Shape := ⟨3, ![1, 8192, 7424]⟩
abbrev S7424 : Shape := ⟨1, ![7424]⟩
abbrev S_ : Shape := ⟨0, ![]⟩

class Facts : Prop where
  bitsLt_bf16_f32 : FTy.bits .bf16 < FTy.bits .f32
  bcast_S_S1x8192x7424 : S_.BroadcastsInDim S1x8192x7424 (![] : Fin 0 → Fin S1x8192x7424.rank)
  bcast_S_S7424 : S_.BroadcastsInDim S7424 (![] : Fin 0 → Fin S7424.rank)

variable [Facts]

def fn {F : FTy → Type} [FloatOps F] (main_arg0 : FVec F S1x8192x7424 .bf16) (main_arg1 : FVec F S7424 .f32) : IVec S1x8192x7424 1 × IVec S7424 1 :=
  let main_v0 : FVec F S1x8192x7424 .f32 := (extf .f32 · bitsLt_bf16_f32) main_arg0
  let main_v1 : FVec F S1x8192x7424 .f32 := Host.absf main_v0
  let main_cst : FVec F S_ .f32 := constant S_ .f32 0x71800000#32
  let main_v2 : FVec F S1x8192x7424 .f32 := broadcastInDim S1x8192x7424 ![] bcast_S_S1x8192x7424 main_cst
  let main_v3 : IVec S1x8192x7424 1 := cmpf .ole main_v1 main_v2
  let main_v4 : FVec F S7424 .f32 := Host.absf main_arg1
  let main_cst_0 : FVec F S_ .f32 := constant S_ .f32 0x3F800000#32
  let main_v5 : FVec F S7424 .f32 := broadcastInDim S7424 ![] bcast_S_S7424 main_cst_0
  let main_v6 : IVec S7424 1 := cmpf .ole main_v4 main_v5
  (main_v3, main_v6)
-- ==== Linear.lean ====
abbrev S8192x7424 : Shape := ⟨2, ![8192, 7424]⟩
abbrev S8192x1 : Shape := ⟨2, ![8192, 1]⟩
abbrev S7424x5376 : Shape := ⟨2, ![7424, 5376]⟩
abbrev S5376 : Shape := ⟨1, ![5376]⟩
abbrev S1x5376 : Shape := ⟨2, ![1, 5376]⟩
abbrev S8192x5376 : Shape := ⟨2, ![8192, 5376]⟩
abbrev S256x7424 : Shape := ⟨2, ![256, 7424]⟩
abbrev S256x1 : Shape := ⟨2, ![256, 1]⟩
abbrev S256x5376 : Shape := ⟨2, ![256, 5376]⟩
abbrev S7424x512 : Shape := ⟨2, ![7424, 512]⟩
abbrev S256x512 : Shape := ⟨2, ![256, 512]⟩
abbrev S1x512 : Shape := ⟨2, ![1, 512]⟩
abbrev S7424x256 : Shape := ⟨2, ![7424, 256]⟩
abbrev S256x256 : Shape := ⟨2, ![256, 256]⟩
abbrev S1x256 : Shape := ⟨2, ![1, 256]⟩

abbrev nBuf : Space → Nat
  | .hbm => 6
  | .vmem => 8
  | .smem => 0
  | _ => 0

abbrev bufTy : (tb : Table) → Fin (tcTables nBuf tb) → BufTy
  | .hbm, ⟨0, _⟩ => ⟨S8192x7424, .fp8e4m3⟩
  | .hbm, ⟨1, _⟩ => ⟨S8192x1, .f32⟩
  | .hbm, ⟨2, _⟩ => ⟨S7424x5376, .fp8e4m3⟩
  | .hbm, ⟨3, _⟩ => ⟨S5376, .f32⟩
  | .hbm, ⟨4, _⟩ => ⟨S1x5376, .f32⟩
  | .hbm, ⟨5, _⟩ => ⟨S8192x5376, .bf16⟩
  | .local _ .vmem, ⟨0, _⟩ => ⟨S256x7424, .fp8e4m3⟩
  | .local _ .vmem, ⟨1, _⟩ => ⟨S256x7424, .fp8e4m3⟩
  | .local _ .vmem, ⟨2, _⟩ => ⟨S256x1, .f32⟩
  | .local _ .vmem, ⟨3, _⟩ => ⟨S256x1, .f32⟩
  | .local _ .vmem, ⟨4, _⟩ => ⟨S7424x5376, .fp8e4m3⟩
  | .local _ .vmem, ⟨5, _⟩ => ⟨S1x5376, .f32⟩
  | .local _ .vmem, ⟨6, _⟩ => ⟨S256x5376, .bf16⟩
  | .local _ .vmem, ⟨7, _⟩ => ⟨S256x5376, .bf16⟩
  | _, _ => ⟨S8192x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7424 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7424x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x5376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LinearRefIdeal.lean ====
abbrev S8192x7424 : Shape := ⟨2, ![8192, 7424]⟩
abbrev S8192x1 : Shape := ⟨2, ![8192, 1]⟩
abbrev S7424x5376 : Shape := ⟨2, ![7424, 5376]⟩
abbrev S5376 : Shape := ⟨1, ![5376]⟩
abbrev S1x5376 : Shape := ⟨2, ![1, 5376]⟩
abbrev S8192x5376 : Shape := ⟨2, ![8192, 5376]⟩

abbrev nBuf : Space → Nat
  | .hbm => 6
  | .vmem => 5
  | .smem => 0
  | _ => 0

abbrev bufTy : (tb : Table) → Fin (tcTables nBuf tb) → BufTy
  | .hbm, ⟨0, _⟩ => ⟨S8192x7424, .fp8e4m3⟩
  | .hbm, ⟨1, _⟩ => ⟨S8192x1, .f32⟩
  | .hbm, ⟨2, _⟩ => ⟨S7424x5376, .fp8e4m3⟩
  | .hbm, ⟨3, _⟩ => ⟨S5376, .f32⟩
  | .hbm, ⟨4, _⟩ => ⟨S1x5376, .f32⟩
  | .hbm, ⟨5, _⟩ => ⟨S8192x5376, .bf16⟩
  | .local _ .vmem, ⟨0, _⟩ => ⟨S8192x7424, .fp8e4m3⟩
  | .local _ .vmem, ⟨1, _⟩ => ⟨S8192x1, .f32⟩
  | .local _ .vmem, ⟨2, _⟩ => ⟨S7424x5376, .fp8e4m3⟩
  | .local _ .vmem, ⟨3, _⟩ => ⟨S1x5376, .f32⟩
  | .local _ .vmem, ⟨4, _⟩ => ⟨S8192x5376, .bf16⟩
  | _, _ => ⟨S8192x7424, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x7424 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7424x5376 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S1x8192x7424 : Shape := ⟨3, ![1, 8192, 7424]⟩
abbrev S7424 : Shape := ⟨1, ![7424]⟩
abbrev S8192x7424 : Shape := ⟨2, ![8192, 7424]⟩
abbrev S1x7424 : Shape := ⟨2, ![1, 7424]⟩
abbrev S32x2x128 : Shape := ⟨3, ![32, 2, 128]⟩
abbrev S256x7424 : Shape := ⟨2, ![256, 7424]⟩
abbrev S1x2x128 : Shape := ⟨3, ![1, 2, 128]⟩
abbrev S14848x128 : Shape := ⟨2, ![14848, 128]⟩
abbrev S8x128 : Shape := ⟨2, ![8, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 6
  | .vmem => 8
  | .smem => 0
  | _ => 0

abbrev bufTy : (tb : Table) → Fin (tcTables nBuf tb) → BufTy
  | .hbm, ⟨0, _⟩ => ⟨S1x8192x7424, .bf16⟩
  | .hbm, ⟨1, _⟩ => ⟨S7424, .f32⟩
  | .hbm, ⟨2, _⟩ => ⟨S8192x7424, .bf16⟩
  | .hbm, ⟨3, _⟩ => ⟨S1x7424, .f32⟩
  | .hbm, ⟨4, _⟩ => ⟨S8192x7424, .fp8e4m3⟩
  | .hbm, ⟨5, _⟩ => ⟨S32x2x128, .f32⟩
  | .local _ .vmem, ⟨0, _⟩ => ⟨S256x7424, .bf16⟩
  | .local _ .vmem, ⟨1, _⟩ => ⟨S256x7424, .bf16⟩
  | .local _ .vmem, ⟨2, _⟩ => ⟨S1x7424, .f32⟩
  | .local _ .vmem, ⟨3, _⟩ => ⟨S256x7424, .fp8e4m3⟩
  | .local _ .vmem, ⟨4, _⟩ => ⟨S256x7424, .fp8e4m3⟩
  | .local _ .vmem, ⟨5, _⟩ => ⟨S1x2x128, .f32⟩
  | .local _ .vmem, ⟨6, _⟩ => ⟨S1x2x128, .f32⟩
  | .local _ .vmem, ⟨7, _⟩ => ⟨S14848x128, .f32⟩
  | _, _ => ⟨S1x8192x7424, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_2 : BitVec 32 := 0#32
  let c58_i32 : BitVec 32 := 58#32
  let v16 : BitVec 32 := Scalar.addi c0_i32_2 c58_i32
  let c1_i32_3 : BitVec 32 := 1#32
  ⟨c0_i32_2, v16, c1_i32_3⟩
def k0_mult1 (k0_t1 : Fin k0_t1_loop.trips) : BitVec 32 :=
  let c0_i32_2 : BitVec 32 := 0#32
  let c1_i32_3 : BitVec 32 := 1#32
  let arg6 : BitVec 32 := Scf.iv c0_i32_2 c1_i32_3 k0_t1
  let c128_i32_71 : BitVec 32 := 128#32
  let v197 : BitVec 32 := Scalar.muli arg6 c128_i32_71
  v197
def k0_off1 (k0_t1 : Fin k0_t1_loop.trips) : Fin 2 → Nat :=
  let c0_72 : Index := 0#32
  let c0_i32_2 : BitVec 32 := 0#32
  let c1_i32_3 : BitVec 32 := 1#32
  let arg6 : BitVec 32 := Scf.iv c0_i32_2 c1_i32_3 k0_t1
  let c128_i32_71 : BitVec 32 := 128#32
  let v197 : BitVec 32 := Scalar.muli arg6 c128_i32_71
  let v198 : BitVec 32 := v197
  let v199 : Index := Scalar.indexCast v198
  ![0, v199.toNat]
def k0_off2 (k0_t1 : Fin k0_t1_loop.trips) : Fin 2 → Nat :=
  let c0_73 : Index := 0#32
  let c0_i32_2 : BitVec 32 := 0#32
  let c1_i32_3 : BitVec 32 := 1#32
  let arg6 : BitVec 32 := Scf.iv c0_i32_2 c1_i32_3 k0_t1
  let c128_i32_71 : BitVec 32 := 128#32
  let v197 : BitVec 32 := Scalar.muli arg6 c128_i32_71
  let v198 : BitVec 32 := v197
  let v203 : Index := Scalar.indexCast v198
  ![0, v203.toNat]
def k0_mult2 (k0_t1 : Fin k0_t1_loop.trips) : BitVec 32 :=
  let c0_i32_2 : BitVec 32 := 0#32
  let c1_i32_3 : BitVec 32 := 1#32
  let arg6 : BitVec 32 := Scf.iv c0_i32_2 c1_i32_3 k0_t1
  let c2_i32_120 : BitVec 32 := 2#32
  let v433 : BitVec 32 := Scalar.muli arg6 c2_i32_120
  let c0_i32_121 : BitVec 32 := 0#32
  let v434 : BitVec 32 := Scalar.addi v433 c0_i32_121
  let c128_i32_122 : BitVec 32 := 128#32
  let v435 : BitVec 32 := Scalar.muli v434 c128_i32_122
  v435
def k0_off3 (k0_t1 : Fin k0_t1_loop.trips) (c0_i32_123 : BitVec 32) (c0_i32_124 : BitVec 32) : Fin 2 → Nat :=
  let c0_i32_2 : BitVec 32 := 0#32
  let c1_i32_3 : BitVec 32 := 1#32
  let arg6 : BitVec 32 := Scf.iv c0_i32_2 c1_i32_3 k0_t1
  let c2_i32_120 : BitVec 32 := 2#32
  let v433 : BitVec 32 := Scalar.muli arg6 c2_i32_120
  let c0_i32_121 : BitVec 32 := 0#32
  let v434 : BitVec 32 := Scalar.addi v433 c0_i32_121
  let c128_i32_122 : BitVec 32 := 128#32
  let v435 : BitVec 32 := Scalar.muli v434 c128_i32_122
  let v436 : BitVec 32 := v435
  let v437 : BitVec 32 := Scalar.addi v436 c0_i32_123
  let v438 : BitVec 32 := Scalar.addi v437 c0_i32_124
  let v439 : Index := Scalar.indexCast v438
  let c0_125 : Index := 0#32
  ![v439.toNat, 0]
@[reducible] def k0_t2_loop : Scf.Loop 32 :=
  let c0_i32_27 : BitVec 32 := 0#32
  let c58_i32_28 : BitVec 32 := 58#32
  let v105 : BitVec 32 := Scalar.addi c0_i32_27 c58_i32_28
  let c1_i32_29 : BitVec 32 := 1#32
  ⟨c0_i32_27, v105, c1_i32_29⟩
def k0_mult3 (k0_t2 : Fin k0_t2_loop.trips) : BitVec 32 :=
  let c0_i32_72 : BitVec 32 := 0#32
  let c0_i32_27 : BitVec 32 := 0#32
  let c1_i32_29 : BitVec 32 := 1#32
  let arg6 : BitVec 32 := Scf.iv c0_i32_27 c1_i32_29 k0_t2
  let c1_i32_71 : BitVec 32 := 1#32
  let v197 : BitVec 32 := Scalar.muli arg6 c1_i32_71
  let v198 : BitVec 32 := Scalar.addi c0_i32_72 v197
  let c2_i32_73 : BitVec 32 := 2#32
  let v199 : BitVec 32 := Scalar.muli v198 c2_i32_73
  let c0_i32_74 : BitVec 32 := 0#32
  let v200 : BitVec 32 := Scalar.addi v199 c0_i32_74
  let c128_i32_75 : BitVec 32 := 128#32
  let v201 : BitVec 32 := Scalar.muli v200 c128_i32_75
  v201
def k0_off4 (k0_t2 : Fin k0_t2_loop.trips) : Fin 2 → Nat :=
  let c0_i32_72 : BitVec 32 := 0#32
  let c0_i32_27 : BitVec 32 := 0#32
  let c1_i32_29 : BitVec 32 := 1#32
  let arg6 : BitVec 32 := Scf.iv c0_i32_27 c1_i32_29 k0_t2
  let c1_i32_71 : BitVec 32 := 1#32
  let v197 : BitVec 32 := Scalar.muli arg6 c1_i32_71
  let v198 : BitVec 32 := Scalar.addi c0_i32_72 v197
  let c2_i32_73 : BitVec 32 := 2#32
  let v199 : BitVec 32 := Scalar.muli v198 c2_i32_73
  let c0_i32_74 : BitVec 32 := 0#32
  let v200 : BitVec 32 := Scalar.addi v199 c0_i32_74
  let c128_i32_75 : BitVec 32 := 128#32
  let v201 : BitVec 32 := Scalar.muli v200 c128_i32_75
  let v202 : BitVec 32 := v201
  let v203 : Index := Scalar.indexCast v202
  let c0_76 : Index := 0#32
  ![v203.toNat, 0]
def k0_mult4 (k0_t2 : Fin k0_t2_loop.trips) : BitVec 32 :=
  let c0_i32_72 : BitVec 32 := 0#32
  let c0_i32_27 : BitVec 32 := 0#32
  let c1_i32_29 : BitVec 32 := 1#32
  let arg6 : BitVec 32 := Scf.iv c0_i32_27 c1_i32_29 k0_t2
  let c1_i32_71 : BitVec 32 := 1#32
  let v197 : BitVec 32 := Scalar.muli arg6 c1_i32_71
  let v198 : BitVec 32 := Scalar.addi c0_i32_72 v197
  let c128_i32_79 : BitVec 32 := 128#32
  let v213 : BitVec 32 := Scalar.muli v198 c128_i32_79
  v213
def k0_off5 (k0_t2 : Fin k0_t2_loop.trips) : Fin 2 → Nat :=
  let c0_80 : Index := 0#32
  let c0_i32_72 : BitVec 32 := 0#32
  let c0_i32_27 : BitVec 32 := 0#32
  let c1_i32_29 : BitVec 32 := 1#32
  let arg6 : BitVec 32 := Scf.iv c0_i32_27 c1_i32_29 k0_t2
  let c1_i32_71 : BitVec 32 := 1#32
  let v197 : BitVec 32 := Scalar.muli arg6 c1_i32_71
  let v198 : BitVec 32 := Scalar.addi c0_i32_72 v197
  let c128_i32_79 : BitVec 32 := 128#32
  let v213 : BitVec 32 := Scalar.muli v198 c128_i32_79
  let v214 : BitVec 32 := v213
  let v215 : Index := Scalar.indexCast v214
  ![0, v215.toNat]
@[reducible] def k0_t3_loop : Scf.Loop 32 :=
  let c0_i32_32 : BitVec 32 := 0#32
  let c58_i32_33 : BitVec 32 := 58#32
  let v107 : BitVec 32 := Scalar.addi c0_i32_32 c58_i32_33
  let c1_i32_34 : BitVec 32 := 1#32
  ⟨c0_i32_32, v107, c1_i32_34⟩
def k0_mult5 (k0_t3 : Fin k0_t3_loop.trips) : BitVec 32 :=
  let c0_i32_32 : BitVec 32 := 0#32
  let c1_i32_34 : BitVec 32 := 1#32
  let arg6 : BitVec 32 := Scf.iv c0_i32_32 c1_i32_34 k0_t3
  let c128_i32_71 : BitVec 32 := 128#32
  let v197 : BitVec 32 := Scalar.muli arg6 c128_i32_71
  v197
def k0_off6 (k0_t3 : Fin k0_t3_loop.trips) : Fin 2 → Nat :=
  let c128 : Index := 128#32
  let c0_i32_32 : BitVec 32 := 0#32
  let c1_i32_34 : BitVec 32 := 1#32
  let arg6 : BitVec 32 := Scf.iv c0_i32_32 c1_i32_34 k0_t3
  let c128_i32_71 : BitVec 32 := 128#32
  let v197 : BitVec 32 := Scalar.muli arg6 c128_i32_71
  let v198 : BitVec 32 := v197
  let v199 : Index := Scalar.indexCast v198
  ![128, v199.toNat]
def k0_off7 (k0_t3 : Fin k0_t3_loop.trips) : Fin 2 → Nat :=
  let c0_72 : Index := 0#32
  let c0_i32_32 : BitVec 32 := 0#32
  let c1_i32_34 : BitVec 32 := 1#32
  let arg6 : BitVec 32 := Scf.iv c0_i32_32 c1_i32_34 k0_t3
  let c128_i32_71 : BitVec 32 := 128#32
  let v197 : BitVec 32 := Scalar.muli arg6 c128_i32_71
  let v198 : BitVec 32 := v197
  let v203 : Index := Scalar.indexCast v198
  ![0, v203.toNat]
def k0_mult6 (k0_t3 : Fin k0_t3_loop.trips) : BitVec 32 :=
  let c0_i32_32 : BitVec 32 := 0#32
  let c1_i32_34 : BitVec 32 := 1#32
  let arg6 : BitVec 32 := Scf.iv c0_i32_32 c1_i32_34 k0_t3
  let c2_i32_119 : BitVec 32 := 2#32
  let v433 : BitVec 32 := Scalar.muli arg6 c2_i32_119
  let c1_i32_120 : BitVec 32 := 1#32
  let v434 : BitVec 32 := Scalar.addi v433 c1_i32_120
  let c128_i32_121 : BitVec 32 := 128#32
  let v435 : BitVec 32 := Scalar.muli v434 c128_i32_121
  v435
def k0_off8 (k0_t3 : Fin k0_t3_loop.trips) (c0_i32_122 : BitVec 32) (c0_i32_123 : BitVec 32) : Fin 2 → Nat :=
  let c0_i32_32 : BitVec 32 := 0#32
  let c1_i32_34 : BitVec 32 := 1#32
  let arg6 : BitVec 32 := Scf.iv c0_i32_32 c1_i32_34 k0_t3
  let c2_i32_119 : BitVec 32 := 2#32
  let v433 : BitVec 32 := Scalar.muli arg6 c2_i32_119
  let c1_i32_120 : BitVec 32 := 1#32
  let v434 : BitVec 32 := Scalar.addi v433 c1_i32_120
  let c128_i32_121 : BitVec 32 := 128#32
  let v435 : BitVec 32 := Scalar.muli v434 c128_i32_121
  let v436 : BitVec 32 := v435
  let v437 : BitVec 32 := Scalar.addi v436 c0_i32_122
  let v438 : BitVec 32 := Scalar.addi v437 c0_i32_123
  let v439 : Index := Scalar.indexCast v438
  let c0_124 : Index := 0#32
  ![v439.toNat, 0]
@[reducible] def k0_t4_loop : Scf.Loop 32 :=
  let c0_i32_67 : BitVec 32 := 0#32
  let c58_i32_68 : BitVec 32 := 58#32
  let v196 : BitVec 32 := Scalar.addi c0_i32_67 c58_i32_68
  let c1_i32_69 : BitVec 32 := 1#32
  ⟨c0_i32_67, v196, c1_i32_69⟩
def k0_mult7 (k0_t4 : Fin k0_t4_loop.trips) : BitVec 32 :=
  let c0_i32_72 : BitVec 32 := 0#32
  let c0_i32_67 : BitVec 32 := 0#32
  let c1_i32_69 : BitVec 32 := 1#32
  let arg6 : BitVec 32 := Scf.iv c0_i32_67 c1_i32_69 k0_t4
  let c1_i32_71 : BitVec 32 := 1#32
  let v197 : BitVec 32 := Scalar.muli arg6 c1_i32_71
  let v198 : BitVec 32 := Scalar.addi c0_i32_72 v197
  let c2_i32_73 : BitVec 32 := 2#32
  let v199 : BitVec 32 := Scalar.muli v198 c2_i32_73
  let c1_i32_74 : BitVec 32 := 1#32
  let v200 : BitVec 32 := Scalar.addi v199 c1_i32_74
  let c128_i32_75 : BitVec 32 := 128#32
  let v201 : BitVec 32 := Scalar.muli v200 c128_i32_75
  v201
def k0_off9 (k0_t4 : Fin k0_t4_loop.trips) : Fin 2 → Nat :=
  let c0_i32_72 : BitVec 32 := 0#32
  let c0_i32_67 : BitVec 32 := 0#32
  let c1_i32_69 : BitVec 32 := 1#32
  let arg6 : BitVec 32 := Scf.iv c0_i32_67 c1_i32_69 k0_t4
  let c1_i32_71 : BitVec 32 := 1#32
  let v197 : BitVec 32 := Scalar.muli arg6 c1_i32_71
  let v198 : BitVec 32 := Scalar.addi c0_i32_72 v197
  let c2_i32_73 : BitVec 32 := 2#32
  let v199 : BitVec 32 := Scalar.muli v198 c2_i32_73
  let c1_i32_74 : BitVec 32 := 1#32
  let v200 : BitVec 32 := Scalar.addi v199 c1_i32_74
  let c128_i32_75 : BitVec 32 := 128#32
  let v201 : BitVec 32 := Scalar.muli v200 c128_i32_75
  let v202 : BitVec 32 := v201
  let v203 : Index := Scalar.indexCast v202
  let c0_76 : Index := 0#32
  ![v203.toNat, 0]
def k0_mult8 (k0_t4 : Fin k0_t4_loop.trips) : BitVec 32 :=
  let c0_i32_72 : BitVec 32 := 0#32
  let c0_i32_67 : BitVec 32 := 0#32
  let c1_i32_69 : BitVec 32 := 1#32
  let arg6 : BitVec 32 := Scf.iv c0_i32_67 c1_i32_69 k0_t4
  let c1_i32_71 : BitVec 32 := 1#32
  let v197 : BitVec 32 := Scalar.muli arg6 c1_i32_71
  let v198 : BitVec 32 := Scalar.addi c0_i32_72 v197
  let c128_i32_79 : BitVec 32 := 128#32
  let v213 : BitVec 32 := Scalar.muli v198 c128_i32_79
  v213
def k0_off10 (k0_t4 : Fin k0_t4_loop.trips) : Fin 2 → Nat :=
  let c128 : Index := 128#32
  let c0_i32_72 : BitVec 32 := 0#32
  let c0_i32_67 : BitVec 32 := 0#32
  let c1_i32_69 : BitVec 32 := 1#32
  let arg6 : BitVec 32 := Scf.iv c0_i32_67 c1_i32_69 k0_t4
  let c1_i32_71 : BitVec 32 := 1#32
  let v197 : BitVec 32 := Scalar.muli arg6 c1_i32_71
  let v198 : BitVec 32 := Scalar.addi c0_i32_72 v197
  let c128_i32_79 : BitVec 32 := 128#32
  let v213 : BitVec 32 := Scalar.muli v198 c128_i32_79
  let v214 : BitVec 32 := v213
  let v215 : Index := Scalar.indexCast v214
  ![128, v215.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x7424 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7424 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7424 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotateRefIdeal.lean ====
abbrev S1x8192x7424 : Shape := ⟨3, ![1, 8192, 7424]⟩
abbrev S7424 : Shape := ⟨1, ![7424]⟩
abbrev S2x2 : Shape := ⟨2, ![2, 2]⟩
abbrev S_ : Shape := ⟨0, ![]⟩
abbrev S1x1 : Shape := ⟨2, ![1, 1]⟩
abbrev S1x1x1x1 : Shape := ⟨4, ![1, 1, 1, 1]⟩
abbrev S1x2x1x2 : Shape := ⟨4, ![1, 2, 1, 2]⟩
abbrev S2x1x2x1 : Shape := ⟨4, ![2, 1, 2, 1]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x1x7424 : Shape := ⟨3, ![1, 1, 7424]⟩
abbrev S1x8192x58x128 : Shape := ⟨4, ![1, 8192, 58, 128]⟩
abbrev S8192x7424 : Shape := ⟨2, ![8192, 7424]⟩
abbrev S8192x1 : Shape := ⟨2, ![8192, 1]⟩
abbrev S8192 : Shape := ⟨1, ![8192]⟩
abbrev S1x253 : Shape := ⟨2, ![1, 253]⟩
abbrev S8192x253 : Shape := ⟨2, ![8192, 253]⟩
abbrev S32x2x128 : Shape := ⟨3, ![32, 2, 128]⟩

abbrev nBuf : Space → Nat
  | .hbm => 59
  | .vmem => 3
  | .smem => 0
  | _ => 0

abbrev bufTy : (tb : Table) → Fin (tcTables nBuf tb) → BufTy
  | .hbm, ⟨0, _⟩ => ⟨S1x8192x7424, .bf16⟩
  | .hbm, ⟨1, _⟩ => ⟨S7424, .f32⟩
  | .hbm, ⟨2, _⟩ => ⟨S2x2, .f32⟩
  | .hbm, ⟨3, _⟩ => ⟨S_, .f32⟩
  | .hbm, ⟨4, _⟩ => ⟨S1x1, .f32⟩
  | .hbm, ⟨5, _⟩ => ⟨S1x1x1x1, .f32⟩
  | .hbm, ⟨6, _⟩ => ⟨S1x2x1x2, .f32⟩
  | .hbm, ⟨7, _⟩ => ⟨S1x2x1x2, .f32⟩
  | .hbm, ⟨8, _⟩ => ⟨S1x2x1x2, .f32⟩
  | .hbm, ⟨9, _⟩ => ⟨S2x2, .f32⟩
  | .hbm, ⟨10, _⟩ => ⟨S2x1x2x1, .f32⟩
  | .hbm, ⟨11, _⟩ => ⟨S1x2x1x2, .f32⟩
  | .hbm, ⟨12, _⟩ => ⟨S2x2x2x2, .f32⟩
  | .hbm, ⟨13, _⟩ => ⟨S2x2x2x2, .f32⟩
  | .hbm, ⟨14, _⟩ => ⟨S2x2x2x2, .f32⟩
  | .hbm, ⟨15, _⟩ => ⟨S4x4, .f32⟩
  | .hbm, ⟨16, _⟩ => ⟨S4x1x4x1, .f32⟩
  | .hbm, ⟨17, _⟩ => ⟨S1x2x1x2, .f32⟩
  | .hbm, ⟨18, _⟩ => ⟨S4x2x4x2, .f32⟩
  | .hbm, ⟨19, _⟩ => ⟨S4x2x4x2, .f32⟩
  | .hbm, ⟨20, _⟩ => ⟨S4x2x4x2, .f32⟩
  | .hbm, ⟨21, _⟩ => ⟨S8x8, .f32⟩
  | .hbm, ⟨22, _⟩ => ⟨S8x1x8x1, .f32⟩
  | .hbm, ⟨23, _⟩ => ⟨S1x2x1x2, .f32⟩
  | .hbm, ⟨24, _⟩ => ⟨S8x2x8x2, .f32⟩
  | .hbm, ⟨25, _⟩ => ⟨S8x2x8x2, .f32⟩
  | .hbm, ⟨26, _⟩ => ⟨S8x2x8x2, .f32⟩
  | .hbm, ⟨27, _⟩ => ⟨S16x16, .f32⟩
  | .hbm, ⟨28, _⟩ => ⟨S16x1x16x1, .f32⟩
  | .hbm, ⟨29, _⟩ => ⟨S1x2x1x2, .f32⟩
  | .hbm, ⟨30, _⟩ => ⟨S16x2x16x2, .f32⟩
  | .hbm, ⟨31, _⟩ => ⟨S16x2x16x2, .f32⟩
  | .hbm, ⟨32, _⟩ => ⟨S16x2x16x2, .f32⟩
  | .hbm, ⟨33, _⟩ => ⟨S32x32, .f32⟩
  | .hbm, ⟨34, _⟩ => ⟨S32x1x32x1, .f32⟩
  | .hbm, ⟨35, _⟩ => ⟨S1x2x1x2, .f32⟩
  | .hbm, ⟨36, _⟩ => ⟨S32x2x32x2, .f32⟩
  | .hbm, ⟨37, _⟩ => ⟨S32x2x32x2, .f32⟩
  | .hbm, ⟨38, _⟩ => ⟨S32x2x32x2, .f32⟩
  | .hbm, ⟨39, _⟩ => ⟨S64x64, .f32⟩
  | .hbm, ⟨40, _⟩ => ⟨S64x1x64x1, .f32⟩
  | .hbm, ⟨41, _⟩ => ⟨S1x2x1x2, .f32⟩
  | .hbm, ⟨42, _⟩ => ⟨S64x2x64x2, .f32⟩
  | .hbm, ⟨43, _⟩ => ⟨S64x2x64x2, .f32⟩
  | .hbm, ⟨44, _⟩ => ⟨S64x2x64x2, .f32⟩
  | .hbm, ⟨45, _⟩ => ⟨S128x128, .f32⟩
  | .hbm, ⟨46, _⟩ => ⟨S_, .f32⟩
  | .hbm, ⟨47, _⟩ => ⟨S128x128, .f32⟩
  | .hbm, ⟨48, _⟩ => ⟨S128x128, .f32⟩
  | .hbm, ⟨49, _⟩ => ⟨S1x8192x7424, .f32⟩
  | .hbm, ⟨50, _⟩ => ⟨S1x1x7424, .f32⟩
  | .hbm, ⟨51, _⟩ => ⟨S1x8192x7424, .f32⟩
  | .hbm, ⟨52, _⟩ => ⟨S1x8192x7424, .f32⟩
  | .hbm, ⟨53, _⟩ => ⟨S1x8192x58x128, .f32⟩
  | .hbm, ⟨54, _⟩ => ⟨S1x8192x58x128, .f32⟩
  | .hbm, ⟨55, _⟩ => ⟨S8192x7424, .f32⟩
  | .hbm, ⟨56, _⟩ => ⟨S8192x7424, .fp8e4m3⟩
  | .hbm, ⟨57, _⟩ => ⟨S8192x1, .f32⟩
  | .hbm, ⟨58, _⟩ => ⟨S32x2x128, .f32⟩
  | .local _ .vmem, ⟨0, _⟩ => ⟨S8192x7424, .f32⟩
  | .local _ .vmem, ⟨1, _⟩ => ⟨S8192x7424, .fp8e4m3⟩
  | .local _ .vmem, ⟨2, _⟩ => ⟨S8192x1, .f32⟩
  | _, _ => ⟨S1x8192x7424, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v1 : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_v2 : Ref sig .tc := ⟨.hbm, 15, rfl⟩
abbrev main_call2_v0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_v3 : Ref sig .tc := ⟨.hbm, 21, rfl⟩
abbrev main_call3_v0 : Ref sig .tc := ⟨.hbm, 22, rfl⟩
abbrev main_call3_v1 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_v4 : Ref sig .tc := ⟨.hbm, 27, rfl⟩
abbrev main_call4_v0 : Ref sig .tc := ⟨.hbm, 28, rfl⟩
abbrev main_call4_v1 : Ref sig .tc := ⟨.hbm, 29, rfl⟩
abbrev main_call4_v2 : Ref sig .tc := ⟨.hbm, 30, rfl⟩
abbrev main_call4_v3 : Ref sig .tc := ⟨.hbm, 31, rfl⟩
abbrev main_call4_v4 : Ref sig .tc := ⟨.hbm, 32, rfl⟩
abbrev main_v5 : Ref sig .tc := ⟨.hbm, 33, rfl⟩
abbrev main_call5_v0 : Ref sig .tc := ⟨.hbm, 34, rfl⟩
abbrev main_call5_v1 : Ref sig .tc := ⟨.hbm, 35, rfl⟩
abbrev main_call5_v2 : Ref sig .tc := ⟨.hbm, 36, rfl⟩
abbrev main_call5_v3 : Ref sig .tc := ⟨.hbm, 37, rfl⟩
abbrev main_call5_v4 : Ref sig .tc := ⟨.hbm, 38, rfl⟩
abbrev main_v6 : Ref sig .tc := ⟨.hbm, 39, rfl⟩
abbrev main_call6_v0 : Ref sig .tc := ⟨.hbm, 40, rfl⟩
abbrev main_call6_v1 : Ref sig .tc := ⟨.hbm, 41, rfl⟩
abbrev main_call6_v2 : Ref sig .tc := ⟨.hbm, 42, rfl⟩
abbrev main_call6_v3 : Ref sig .tc := ⟨.hbm, 43, rfl⟩
abbrev main_call6_v4 : Ref sig .tc := ⟨.hbm, 44, rfl⟩
abbrev main_v7 : Ref sig .tc := ⟨.hbm, 45, rfl⟩
abbrev main_cst_1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17_0 : Ref sig .tc := ⟨.hbm, 56, rfl⟩
abbrev main_v17_1 : Ref sig .tc := ⟨.hbm, 57, rfl⟩
abbrev main_v18 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x7424 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7424 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Dense.lean ====
/-
  A scaled product of two matrices, read at an index over the extended reals: what every store of the tiled kernel and
  the one store of the reference hold. Sizes are variables here, so one lemma serves the 512-wide tiles, the 256-wide
  last tile and the whole array.
-/
module

public import Idealize.ShloMosaic.Lib.Pipeline.ValueKit
public import Idealize.ShloMosaic.Lib.Pointwise
public import Idealize.ShloMosaic.Lib.MatmulPlain
public import Idealize.ShloMosaic.Lib.ValueLayout
public import Idealize.ShloMosaic.Lib.Tactic

@[expose] public section

noncomputable section

open Idealize.ShloMosaic hiding ix2 eq_ix2
open Idealize.ShloMosaic.ValueIdx

namespace Cert.Dense

/-- `(Σ_k a[r,k] · w[k,n]) · xs[r] · ws[n]`: the product of codes and weights, each entry times its row's scale and then
    its column's scale. -/
def lin {M K N : ℕ} (a : FVec Ideal ⟨2, ![M, K]⟩ .fp8e4m3) (w : FVec Ideal ⟨2, ![K, N]⟩ .fp8e4m3)
    (xs : FVec Ideal ⟨2, ![M, 1]⟩ .f32) (ws : FVec Ideal ⟨2, ![1, N]⟩ .f32) : FVec Ideal ⟨2, ![M, N]⟩ .bf16 :=
  fun y => ((∑ k : Fin K, a (ix2 (y 0) k) * w (ix2 k (y 1)) : EReal) * xs (ix2 (y 0) 0) : EReal) * ws (ix2 0 (y 1))

/-- The chain both programs run after their loads is `lin`: the product into a zero accumulator, times the row scales,
    times the column scales, rounded (the identity over the extended reals). -/
theorem chain_eq_lin {M K N : ℕ} (a : FVec Ideal ⟨2, ![M, K]⟩ .fp8e4m3) (w : FVec Ideal ⟨2, ![K, N]⟩ .fp8e4m3)
    (xs : FVec Ideal ⟨2, ![M, 1]⟩ .f32) (ws : FVec Ideal ⟨2, ![1, N]⟩ .f32)
    (hx : (⟨2, ![M, 1]⟩ : Shape).Broadcasts ⟨2, ![M, N]⟩) (hw : (⟨2, ![1, N]⟩ : Shape).Broadcasts ⟨2, ![M, N]⟩)
    (hc : (⟨2, ![1, N]⟩ : Shape).ShapeCasts ⟨2, ![1, N]⟩) (hb : FTy.bits .bf16 < FTy.bits .f32) :
    truncf .bf16 (mulf (mulf (matmul (DotDims.plain M K N) none a w (constant ⟨2, ![M, N]⟩ .f32 0x00000000#32))
      (broadcastTo ⟨2, ![M, N]⟩ xs hx)) (broadcastTo ⟨2, ![M, N]⟩ (shapeCast ⟨2, ![1, N]⟩ ws hc) hw)) hb
      = lin a w xs ws := by
  funext y
  obtain ⟨r, n, rfl⟩ : ∃ (r : Fin M) (n : Fin N), y = ix2 r n := ⟨y 0, y 1, eq_ix2 y⟩
  show (FloatOps.matmul (DotDims.plain M K N) none a w (constant ⟨2, ![M, N]⟩ .f32 0x00000000#32) (ix2 r n) : EReal)
      * broadcastTo ⟨2, ![M, N]⟩ xs hx (ix2 r n) * broadcastTo ⟨2, ![M, N]⟩ (shapeCast ⟨2, ![1, N]⟩ ws hc) hw (ix2 r n) = _
  have hcol : broadcastTo ⟨2, ![M, N]⟩ xs hx (ix2 r n) = xs (ix2 r (0 : Fin 1)) := by
    refine broadcastTo_apply xs hx (ix2 r n) (ix2 r (0 : Fin 1)) fun ax => ?_
    match ax with
    | ⟨0, _⟩ =>
      show r.val = if M = 1 then 0 else r.val
      split
      · have := r.isLt; omega
      · rfl
    | ⟨1, _⟩ => rfl
  rw [shapeCast_self, Ideal.matmul_plain_apply, broadcastTo_1b_ab_apply, hcol]
  have hz : constant (F := Ideal) ⟨2, ![M, N]⟩ .f32 0x00000000#32 (ix2 r n) = (0 : EReal) := Ideal.ofBits_zero_f32
  rw [hz, zero_add]
  rfl

/-- `lin` of some of the rows and some of the columns is `lin` there: if the local codes are the array's codes at row
    `r`, and so on, the local entry is the array's entry. -/
theorem lin_restrict {M M' K N N' : ℕ} {a : FVec Ideal ⟨2, ![M, K]⟩ .fp8e4m3} {w : FVec Ideal ⟨2, ![K, N]⟩ .fp8e4m3}
    {xs : FVec Ideal ⟨2, ![M, 1]⟩ .f32} {ws : FVec Ideal ⟨2, ![1, N]⟩ .f32}
    {a' : FVec Ideal ⟨2, ![M', K]⟩ .fp8e4m3} {w' : FVec Ideal ⟨2, ![K, N']⟩ .fp8e4m3}
    {xs' : FVec Ideal ⟨2, ![M', 1]⟩ .f32} {ws' : FVec Ideal ⟨2, ![1, N']⟩ .f32}
    (y : (⟨2, ![M, N]⟩ : Shape).Idx) (y' : (⟨2, ![M', N']⟩ : Shape).Idx)
    (ha : ∀ k : Fin K, a (ix2 (y 0) k) = a' (ix2 (y' 0) k)) (hw : ∀ k : Fin K, w (ix2 k (y 1)) = w' (ix2 k (y' 1)))
    (hxs : xs (ix2 (y 0) 0) = xs' (ix2 (y' 0) 0)) (hws : ws (ix2 0 (y 1)) = ws' (ix2 0 (y' 1))) :
    lin a w xs ws y = lin a' w' xs' ws' y' := by
  unfold lin
  simp only [ha, hw, hxs, hws]

/-- A load of `n` whole columns from column `o` on, read at an index: the array at the same row, `o` columns further. -/
theorem ld_cols {K N n o : ℕ} {e : EltTy} (X : (⟨2, ![K, N]⟩ : Shape).Idx → Elt Ideal e)
    (inb : ∀ a, (![0, o] : Fin 2 → ℕ) a + (![K, n] : Fin 2 → ℕ) a ≤ (⟨2, ![K, N]⟩ : Shape).size a)
    (k : Fin K) (x : Fin n) (y : Fin N) (h : (y : ℕ) = o + x) :
    View.ld X (Rect.unit (s := ⟨2, ![K, N]⟩) ![0, o] ![K, n] inb) (ix2 k x) = X (ix2 k y) := by
  refine View.ld_unit_apply_of _ _ _ _ _ _ fun a => ?_
  match a with
  | ⟨0, _⟩ => exact (Nat.zero_add _).symm
  | ⟨1, _⟩ => exact h

end Cert.Dense
end
-- ==== Proof.LinKernel.lean ====
/-
  The tiled kernel's result array over the extended reals: `Dense.lin` of its four arguments. A grid point stores
  eleven column tiles of its 256 rows; each tile is the same chain of operations on a slice of the weights, so all are
  tiles of one function of the block's index.
-/
module

public import proofs.«01_k».proof.Proof.Gen.LinearIdeal.Value
public import proofs.«01_k».proof.Proof.Dense
public import Idealize.ShloMosaic.Lib.Claim

@[expose] public section

set_option maxRecDepth 16384

noncomputable section

open Idealize.ShloMosaic hiding ix2 eq_ix2
open Idealize.ShloMosaic.TcCoe Idealize.SL.Sem Idealize.ShloMosaic.ValueIdx
open Idealize.ShloMosaic.Pipeline (Dat)

namespace Cert.LinearIdeal.Block

open Cert.LinearIdeal Cert.LinearIdeal.Gen

variable (m : (ℓ : Loc nD τ sig) → Buf (Elt Ideal) ℓ) (ρ : Dev nD → PrngReg)

/-- What grid point `t` leaves in the result window's staging buffer: `Dense.lin` of the point's four input blocks. -/
theorem block_eq (c : Dev nD) (t : Fin cfg0.N) :
    outsAt0 m c t = Dense.lin (M := 256) (K := 7424) (N := 5376) (iblk m c 0 t) (iblk m c 2 t) (iblk m c 1 t) (iblk m c 3 t) := by
  funext y
  unfold outsAt0
  frame_out
  canon_tiles x h using View.cover_of_tiledBy _ ![256, 256] (by sl_kernel_rfl) y
  all_goals
    refine (congrFun (Dense.chain_eq_lin _ _ _ _ _ _ _ _) x).trans (Dense.lin_restrict x y ?_ ?_ ?_ ?_)
  all_goals first
    | exact fun k => congrArg (iblk m c 0 t) (congrArg (fun r : Fin 256 => ix2 r k) (Fin.ext h0.symm))
    | exact congrArg (iblk m c 1 t) (congrArg (fun r : Fin 256 => ix2 r (0 : Fin 1)) (Fin.ext h0.symm))
    | exact fun k => Dense.ld_cols (iblk m c 2 t) _ k (x 1) (y 1) (by omega)
    | exact Dense.ld_cols (iblk m c 3 t) _ (0 : Fin 1) (x 1) (y 1) (by omega)

/-- The column scales the kernel reads: the argument as one row. -/
abbrev wrow (c : Dev nD) : FVec Ideal S1x5376 .f32 :=
  shapeCast S1x5376 (m ((c : Thread nD τ).loc main_arg3)) shapeCasts_S5376_S1x5376

/-- The whole result: `Dense.lin` of the codes, the weights and the two scales. -/
abbrev out (c : Dev nD) : Buf (Elt Ideal) ((c : Thread nD τ).loc main_v1) :=
  Dense.lin (M := 8192) (K := 7424) (N := 5376) (m ((c : Thread nD τ).loc main_arg0)) (m ((c : Thread nD τ).loc main_arg2))
    (m ((c : Thread nD τ).loc main_arg1)) (wrow m c)

/-- Where each window's block sits at grid point `t`: the codes, the row scales and the result move down one row block a
    point; the weights and the column scales stay. -/
theorem idx : ∀ t : Fin grid0.N, win0_0.index t 0 = t.val ∧ win0_0.index t 1 = 0 ∧ win0_1.index t 0 = t.val
    ∧ win0_1.index t 1 = 0 ∧ win0_2.index t 0 = 0 ∧ win0_2.index t 1 = 0 ∧ win0_3.index t 0 = 0 ∧ win0_3.index t 1 = 0
    ∧ win0_4.index t 0 = t.val ∧ win0_4.index t 1 = 0 := by decide +kernel

/-- The result array after the run is `out`: point `t` writes rows `256 t` to `256 t + 255` of it, and the 32 points
    cover the array. -/
theorem final (c : Dev nD) : (dats m 0 c).arrAt 4 cfg0.N = out m c := by
  refine (dats m 0 c).arrAt_eq_of_covers 4 _ (by decide +kernel) fun t hf y => ?_
  blk_simp
  rw [after0_4, block_eq]
  obtain ⟨i00, i01, i10, i11, i20, i21, i30, i31, i40, i41⟩ := idx t
  have e0 : ((win0_4.blk t).view.emb y 0 : ℕ) = t.val * 256 + (y 0 : ℕ) := by blk_simp; rw [i40]
  have e1 : ((win0_4.blk t).view.emb y 1 : ℕ) = (y 1 : ℕ) := by blk_simp; rw [i41]; omega
  refine Dense.lin_restrict (M' := 8192) (N' := 5376) y ((win0_4.blk t).view.emb y) (fun k => ?_) (fun k => ?_) ?_ ?_
  all_goals unfold iblk
  all_goals entry_read
  all_goals generalize (win0_4.blk t).view.emb y = z at e0 e1 ⊢
  · blk_ext!
    · show win0_0.index t 0 * 256 + (y 0 : ℕ) = (z 0 : ℕ)
      rw [i00, e0]
    · show win0_0.index t 1 * 7424 + (k : ℕ) = (k : ℕ)
      rw [i01]; omega
  · blk_ext!
    · show win0_2.index t 0 * 7424 + (k : ℕ) = (k : ℕ)
      rw [i20]; omega
    · show win0_2.index t 1 * 5376 + (y 1 : ℕ) = (z 1 : ℕ)
      rw [i21, e1]; omega
  · blk_ext!
    · show win0_1.index t 0 * 256 + (y 0 : ℕ) = (z 0 : ℕ)
      rw [i10, e0]
  · blk_ext!
    · show win0_3.index t 1 * 5376 + (y 1 : ℕ) = (z 1 : ℕ)
      rw [i31, e1]; omega

/-- The run, read: the result array at `out`, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.LinearIdeal.Block
end
-- ==== Proof.LinRef.lean ====
/-
  The reference's result array over the extended reals: `Dense.lin` of its four arguments. It has one grid point and one
  block, the whole array.
-/
module

public import proofs.«01_k».proof.Proof.Gen.LinearRefIdeal.Value
public import proofs.«01_k».proof.Proof.Dense
public import Idealize.ShloMosaic.Lib.Claim

@[expose] public section

set_option maxRecDepth 16384

noncomputable section

open Idealize.ShloMosaic hiding ix2 eq_ix2
open Idealize.ShloMosaic.TcCoe Idealize.SL.Sem Idealize.ShloMosaic.ValueIdx
open Idealize.ShloMosaic.Pipeline (Dat)

namespace Cert.LinearRefIdeal.Block

open Cert.LinearRefIdeal Cert.LinearRefIdeal.Gen

variable (m : (ℓ : Loc nD τ sig) → Buf (Elt Ideal) ℓ) (ρ : Dev nD → PrngReg)

/-- The offset of a load or store of a whole buffer is zero. -/
theorem hz : (![0, 0] : Fin 2 → Nat) = fun _ => 0 := funext fun a => by fin_cases a <;> rfl

/-- The body's one store holds `Dense.lin` of the four loaded arrays. -/
theorem block_eq (x0 : Vec Ideal S8192x7424 .fp8e4m3) (x1 : Vec Ideal S8192x1 .f32) (x2 : Vec Ideal S7424x5376 .fp8e4m3)
    (x3 : Vec Ideal S1x5376 .f32) :
    out0_4 x0 x1 x2 x3 = Dense.lin (M := 8192) (K := 7424) (N := 5376) x0 x2 x1 x3 := by
  unfold out0_4
  rw [View.canon_unit_zero hz, View.ld_unit_zero hz, View.ld_unit_zero hz, View.ld_unit_zero hz, View.ld_unit_zero hz]
  exact Dense.chain_eq_lin _ _ _ _ _ _ _ _

/-- The column scales the reference reads: the argument as one row. -/
abbrev wrow (c : Dev nD) : FVec Ideal S1x5376 .f32 :=
  shapeCast S1x5376 (m ((c : Thread nD τ).loc main_arg3)) shapeCasts_S5376_S1x5376

/-- The whole result: `Dense.lin` of the codes, the weights and the two scales. -/
abbrev out (c : Dev nD) : Buf (Elt Ideal) ((c : Thread nD τ).loc main_v1) :=
  Dense.lin (M := 8192) (K := 7424) (N := 5376) (m ((c : Thread nD τ).loc main_arg0)) (m ((c : Thread nD τ).loc main_arg2))
    (m ((c : Thread nD τ).loc main_arg1)) (wrow m c)

/-- Every window's one block starts at the array's origin. -/
theorem idx : ∀ t : Fin grid0.N, win0_0.index t 0 = 0 ∧ win0_0.index t 1 = 0 ∧ win0_1.index t 0 = 0
    ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 := by decide +kernel

/-- The result array after the run is `out`: the one block is the whole array. -/
theorem final (c : Dev nD) : (dats m 0 c).arrAt 4 cfg0.N = out m c := by
  refine (dats m 0 c).arrAt_eq_of_covers 4 _ (by decide +kernel) fun t hf y => ?_
  blk_simp
  rw [after0_4, block_eq]
  obtain ⟨i00, i01, i10, i11, i20, i21, i30, i31, i40, i41⟩ := idx t
  have e0 : ((win0_4.blk t).view.emb y 0 : ℕ) = (y 0 : ℕ) := by blk_simp; rw [i40]; omega
  have e1 : ((win0_4.blk t).view.emb y 1 : ℕ) = (y 1 : ℕ) := by blk_simp; rw [i41]; omega
  refine Dense.lin_restrict (M' := 8192) (N' := 5376) y ((win0_4.blk t).view.emb y) (fun k => ?_) (fun k => ?_) ?_ ?_
  all_goals unfold iblk
  all_goals entry_read
  all_goals generalize (win0_4.blk t).view.emb y = z at e0 e1 ⊢
  · blk_ext!
    · show win0_0.index t 0 * 8192 + (y 0 : ℕ) = (z 0 : ℕ)
      rw [i00, e0]; omega
    · show win0_0.index t 1 * 7424 + (k : ℕ) = (k : ℕ)
      rw [i01]; omega
  · blk_ext!
    · show win0_2.index t 0 * 7424 + (k : ℕ) = (k : ℕ)
      rw [i20]; omega
    · show win0_2.index t 1 * 5376 + (y 1 : ℕ) = (z 1 : ℕ)
      rw [i21, e1]; omega
  · blk_ext!
    · show win0_1.index t 0 * 8192 + (y 0 : ℕ) = (z 0 : ℕ)
      rw [i10, e0]; omega
  · blk_ext!
    · show win0_3.index t 1 * 5376 + (y 1 : ℕ) = (z 1 : ℕ)
      rw [i31, e1]; omega

/-- The run, read: the result array at `out`, the arguments unchanged. -/
theorem run : θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.LinearRefIdeal.Block
end
-- ==== Proof.BitTrip.lean ====
module

public import proofs.«01_k».proof.Proof.Gen.Rotate.Frame
public import proofs.«01_k».proof.Proof.Gen.Rotate.Skeleton
public import Idealize.ShloMosaic.Lib.Pipeline.ValueKit

@[expose] public section

set_option maxRecDepth 16384
set_option maxHeartbeats 4000000

/-! One trip of each of the two rotation loops, run on any format model: the sixteen strided stores
    leave the rotated block in the scratch, and the carried maximum takes in the block's entries. -/

noncomputable section

namespace Cert.Rotate.Hand
open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- One butterfly over bit `b` of the slice number. -/
def bst (b : ℕ) (v : ℕ → FVec F S8x128 .f32) : ℕ → FVec F S8x128 .f32 := fun i =>
  if i &&& b = 0 then addf (v i) (v (i ||| b)) else subf (v (i ^^^ b)) (v i)

/-- One butterfly over bit `d` of the sublane, whose results trade places with bit `d` of the slice number. -/
def rst (d : ℕ) (a b : BitVec 32) (m : IVec S8x128 1) (v : ℕ → FVec F S8x128 .f32) : ℕ → FVec F S8x128 .f32 := fun i =>
  if i &&& d = 0 then
    addf (select m (v i) (dynamicRotate 0 a none (v (i ||| d)) rotates_S8x128_d0))
      (select m (dynamicRotate 0 b none (v i) rotates_S8x128_d0) (v (i ||| d)))
  else
    subf (select m (v (i ^^^ d)) (dynamicRotate 0 a none (v i) rotates_S8x128_d0))
      (select m (dynamicRotate 0 b none (v (i ^^^ d)) rotates_S8x128_d0) (v i))

/-- The sixteen slices of the transposed scaled block. -/
def slc (x : Vec F S128x128 .bf16) (s : Vec F S1x128 .f32) : ℕ → FVec F S8x128 .f32
  | 0 => k0_pay5 x s | 1 => k0_pay6 x s | 2 => k0_pay7 x s | 3 => k0_pay8 x s
  | 4 => k0_pay9 x s | 5 => k0_pay10 x s | 6 => k0_pay11 x s | 7 => k0_pay12 x s
  | 8 => k0_pay13 x s | 9 => k0_pay14 x s | 10 => k0_pay15 x s | 11 => k0_pay16 x s
  | 12 => k0_pay17 x s | 13 => k0_pay18 x s | 14 => k0_pay19 x s | _ => k0_pay20 x s

/-- The rotated block, slice by slice. -/
def rot (m1 m2 m4 : IVec S8x128 1) (x : Vec F S128x128 .bf16) (s : Vec F S1x128 .f32) : ℕ → FVec F S8x128 .f32 :=
  rst 4 4#32 4#32 m4 (rst 2 2#32 6#32 m2 (rst 1 1#32 7#32 m1 (bst 8 (bst 4 (bst 2 (bst 1 (slc x s)))))))

/-- The largest magnitude among the sixteen slices and the carried value. -/
def vmx (a : FVec F S8x128 .f32) (v : ℕ → FVec F S8x128 .f32) : FVec F S8x128 .f32 :=
  let m2 := fun i => maximumf (absf (v (2 * i))) (absf (v (2 * i + 1)))
  let m4 := fun i => maximumf (m2 (2 * i)) (m2 (2 * i + 1))
  let m8 := fun i => maximumf (m4 (2 * i)) (m4 (2 * i + 1))
  maximumf a (maximumf (m8 0) (m8 1))

/-- The strided rectangle that slice `i` of a block goes to. -/
def prect1 (k : Fin k0_t1_loop.trips) (r₁ : Fin 2) (r₂ : Fin 8) : Rect S14848x128 :=
  ⟨⟨k0_off3 k (BitVec.ofNat 32 (64 * r₁.val)) (BitVec.ofNat 32 r₂.val), S8x128.size, ![8, 1], k0_off3_inb k r₁ r₂⟩, spos_8_1⟩

/-- A slice as it is stored. -/
def sto (v : FVec F S8x128 .f32) : FVec F S8x128 .f32 := shapeCast S8x128 v shapeCasts_S8x128_S8x128

/-- The sixteen writes of a trip, last first. -/
def pieces1 (k : Fin k0_t1_loop.trips) (v : ℕ → FVec F S8x128 .f32) : List (View.Piece (Elt F) S14848x128 .f32) :=
  [⟨prect1 k 1 7, sto (v 15)⟩, ⟨prect1 k 1 6, sto (v 14)⟩, ⟨prect1 k 1 5, sto (v 13)⟩, ⟨prect1 k 1 4, sto (v 12)⟩,
   ⟨prect1 k 1 3, sto (v 11)⟩, ⟨prect1 k 1 2, sto (v 10)⟩, ⟨prect1 k 1 1, sto (v 9)⟩, ⟨prect1 k 1 0, sto (v 8)⟩,
   ⟨prect1 k 0 7, sto (v 7)⟩, ⟨prect1 k 0 6, sto (v 6)⟩, ⟨prect1 k 0 5, sto (v 5)⟩, ⟨prect1 k 0 4, sto (v 4)⟩,
   ⟨prect1 k 0 3, sto (v 3)⟩, ⟨prect1 k 0 2, sto (v 2)⟩, ⟨prect1 k 0 1, sto (v 1)⟩, ⟨prect1 k 0 0, sto (v 0)⟩]

/-- The input block and the row of factors that a trip loads. -/
def ld1 (arg1 : Memref sig .tc .vmem S256x7424 .bf16) (X1 : BufTy.Contents (Elt F) arg1.view.ty) (k : Fin k0_t1_loop.trips) : Vec F S128x128 .bf16 :=
  View.readAt (Elt F) arg1.view (Rect.unit (s := S256x7424) (k0_off1 k) S128x128.size (k0_off1_inb k)).toLoadRect X1
def ld2 (arg2 : Memref sig .tc .vmem S1x7424 .f32) (X2 : BufTy.Contents (Elt F) arg2.view.ty) (k : Fin k0_t1_loop.trips) : Vec F S1x128 .f32 :=
  View.readAt (Elt F) arg2.view (Rect.unit (s := S1x7424) (k0_off2 k) S1x128.size (k0_off2_inb k)).toLoadRect X2

/-- One trip of the first half's loop. -/
theorem trip1 (𝒱 : Variants) (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole) (X1 : BufTy.Contents (Elt F) arg1.view.ty) (X2 : BufTy.Contents (Elt F) arg2.view.ty) (f : BufTy.Contents (Elt F) arg5.view.ty) (k : Fin k0_t1_loop.trips) (acc : FVec F S8x128 .f32) (E : Set ℕ) :
   iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f))
   ⊢ (wp frame (wpE (defs₀ (F := F)) 𝒱 (c : Thread nD τ) none) E (k0_t1_body (F := F) i arg1 harg1 arg2 harg2 arg3 harg3 arg4 harg4 arg5 harg5 k acc)
          (fun yld => iprop(∃ f', (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f')
            ∗ ⌜yld = vmx acc (rot k0_pay404 k0_pay405 k0_pay406 (ld1 arg1 X1 k) (ld2 arg2 X2 k)) ∧ f' = arg5.view.writes (Elt F) f (pieces1 k (rot k0_pay404 k0_pay405 k0_pay406 (ld1 arg1 X1 k) (ld2 arg2 X2 k)))⌝)) : sProp 𝕄) := by
  have hk : k.val < 58 := Nat.lt_of_lt_of_le k.isLt k0_t1_abs.2.1
  unfold k0_t1_body
  iintro ⟨H1, H2, H5⟩
  sl_exec
  sl_step
  iexists _
  isplitl [H1]; · iexact H1
  isplitl [H2]; · iexact H2
  isplitl [H5]; · iexact H5
  ipureintro
  refine ⟨?_, ?_⟩
  · rfl
  · rfl

/-- The second half's rectangles and pieces. -/
def prect3 (k : Fin k0_t3_loop.trips) (r₁ : Fin 2) (r₂ : Fin 8) : Rect S14848x128 :=
  ⟨⟨k0_off8 k (BitVec.ofNat 32 (64 * r₁.val)) (BitVec.ofNat 32 r₂.val), S8x128.size, ![8, 1], k0_off8_inb k r₁ r₂⟩, spos_8_1⟩

/-- The sixteen writes of a trip of the second half, last first. -/
def pieces3 (k : Fin k0_t3_loop.trips) (v : ℕ → FVec F S8x128 .f32) : List (View.Piece (Elt F) S14848x128 .f32) :=
  [⟨prect3 k 1 7, sto (v 15)⟩, ⟨prect3 k 1 6, sto (v 14)⟩, ⟨prect3 k 1 5, sto (v 13)⟩, ⟨prect3 k 1 4, sto (v 12)⟩,
   ⟨prect3 k 1 3, sto (v 11)⟩, ⟨prect3 k 1 2, sto (v 10)⟩, ⟨prect3 k 1 1, sto (v 9)⟩, ⟨prect3 k 1 0, sto (v 8)⟩,
   ⟨prect3 k 0 7, sto (v 7)⟩, ⟨prect3 k 0 6, sto (v 6)⟩, ⟨prect3 k 0 5, sto (v 5)⟩, ⟨prect3 k 0 4, sto (v 4)⟩,
   ⟨prect3 k 0 3, sto (v 3)⟩, ⟨prect3 k 0 2, sto (v 2)⟩, ⟨prect3 k 0 1, sto (v 1)⟩, ⟨prect3 k 0 0, sto (v 0)⟩]

/-- The input block and the row of factors that a trip of the second half loads. -/
def ld3 (arg1 : Memref sig .tc .vmem S256x7424 .bf16) (X1 : BufTy.Contents (Elt F) arg1.view.ty) (k : Fin k0_t3_loop.trips) : Vec F S128x128 .bf16 :=
  View.readAt (Elt F) arg1.view (Rect.unit (s := S256x7424) (k0_off6 k) S128x128.size (k0_off6_inb k)).toLoadRect X1
def ld4 (arg2 : Memref sig .tc .vmem S1x7424 .f32) (X2 : BufTy.Contents (Elt F) arg2.view.ty) (k : Fin k0_t3_loop.trips) : Vec F S1x128 .f32 :=
  View.readAt (Elt F) arg2.view (Rect.unit (s := S1x7424) (k0_off7 k) S1x128.size (k0_off7_inb k)).toLoadRect X2

/-- One trip of the second half's loop. -/
theorem trip3 (𝒱 : Variants) (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole) (X1 : BufTy.Contents (Elt F) arg1.view.ty) (X2 : BufTy.Contents (Elt F) arg2.view.ty) (f : BufTy.Contents (Elt F) arg5.view.ty) (k : Fin k0_t3_loop.trips) (acc : FVec F S8x128 .f32) (v4 v9 v14 : IVec S8x128 1) (v80 : IVec S1x128 32) (v85 : IVec S1x128 1) (E : Set ℕ) :
   iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f))
   ⊢ (wp frame (wpE (defs₀ (F := F)) 𝒱 (c : Thread nD τ) none) E (k0_t3_body (F := F) i arg1 harg1 arg2 harg2 arg3 harg3 arg4 harg4 arg5 harg5 v4 v9 v14 v80 v85 k acc)
          (fun yld => iprop(∃ f', (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f')
            ∗ ⌜yld = vmx acc (rot v4 v9 v14 (ld3 arg1 X1 k) (ld4 arg2 X2 k)) ∧ f' = arg5.view.writes (Elt F) f (pieces3 k (rot v4 v9 v14 (ld3 arg1 X1 k) (ld4 arg2 X2 k)))⌝)) : sProp 𝕄) := by
  have hk : k.val < 58 := Nat.lt_of_lt_of_le k.isLt k0_t3_abs.2.1
  unfold k0_t3_body
  iintro ⟨H1, H2, H5⟩
  sl_exec
  sl_step
  iexists _
  isplitl [H1]; · iexact H1
  isplitl [H2]; · iexact H2
  isplitl [H5]; · iexact H5
  ipureintro
  refine ⟨?_, ?_⟩
  · rfl
  · rfl

end Cert.Rotate.Hand
end
-- ==== Proof.BitRun.lean ====
module

public import proofs.«01_k».proof.Proof.BitTrip

@[expose] public section

set_option maxRecDepth 16384
set_option maxHeartbeats 4000000

/-! The kernel body run whole: what it leaves in the blocks of codes and of scales, as functions of
    the two input blocks, on any format model. -/

noncomputable section

namespace Cert.Rotate.Hand
open Cert.Rotate Cert.Rotate.Gen
open Idealize.ShloMosaic hiding ix2 eq_ix2
open Idealize.ShloMosaic.ValueIdx (ix2 eq_ix2)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Block `(h, g)` of the input: rows of half `h`, columns of group `g`. -/
def xb (B : Vec F S256x7424 .bf16) (h : Fin 2) (g : Fin 58) : Vec F S128x128 .bf16 := fun y =>
  B (ix2 (⟨128 * h.val + (y 0).val, by have := h.isLt; have : (y 0).val < 128 := (y 0).isLt; omega⟩ : Fin 256)
    (⟨128 * g.val + (y 1).val, by have := g.isLt; have : (y 1).val < 128 := (y 1).isLt; omega⟩ : Fin 7424))

/-- Group `g` of the row of factors. -/
def sb (S : Vec F S1x7424 .f32) (g : Fin 58) : Vec F S1x128 .f32 := fun y =>
  S (ix2 (0 : Fin 1) (⟨128 * g.val + (y 1).val, by have := g.isLt; have : (y 1).val < 128 := (y 1).isLt; omega⟩ : Fin 7424))

/-- The rotated block's slices. -/
def rb (B : Vec F S256x7424 .bf16) (S : Vec F S1x7424 .f32) (h : Fin 2) (g : Fin 58) : ℕ → FVec F S8x128 .f32 :=
  rot k0_pay404 k0_pay405 k0_pay406 (xb B h g) (sb S g)

/-- The group that trip `n` works on. -/
def gOf (n : ℕ) : Fin 58 := ⟨n % 58, Nat.mod_lt _ (by omega)⟩
/-- Below 58 the group of a trip is the trip. -/
theorem gOf_of {n : ℕ} (h : n < 58) : (gOf n).val = n := Nat.mod_eq_of_lt h

/-- The carried maximum after `n` trips over half `h`. -/
def am (B : Vec F S256x7424 .bf16) (S : Vec F S1x7424 .f32) (h : Fin 2) : ℕ → FVec F S8x128 .f32
  | 0 => k0_pay407
  | n + 1 => vmx (am B S h n) (rb B S h (gOf n))

/-- What the scratch holds after the rotation. -/
def sv (B : Vec F S256x7424 .bf16) (S : Vec F S1x7424 .f32) : Vec F S14848x128 .f32 := fun y =>
  sto (rb B S ⟨(y 0).val / 128 % 2, by omega⟩ (gOf ((y 0).val / 256)) (8 * ((y 0).val % 128 / 64) + (y 0).val % 8))
    (ix2 (⟨(y 0).val % 64 / 8, by omega⟩ : Fin 8) (y 1))

/-- The input tile that a trip of loop 1 loads. -/
theorem ld1_eq (arg1 : Memref sig .tc .vmem S256x7424 .bf16) (X1 : BufTy.Contents (Elt F) arg1.view.ty) (k : Fin k0_t1_loop.trips) (hk : k.val < 58) :
    ld1 arg1 X1 k = xb (arg1.view.read (Elt F) X1) 0 (gOf k.val) := by
  funext y
  refine congrArg (arg1.view.read (Elt F) X1) (funext fun a => Fin.ext ?_)
  show k0_off1 k a + 1 * (y a).val = _
  rw [k0_off1_eq]
  fin_cases a
  · simp [ix2]
  · simp [ix2, gOf_of hk]

/-- The signs that a trip of loop 1 loads. -/
theorem ld2_eq (arg2 : Memref sig .tc .vmem S1x7424 .f32) (X2 : BufTy.Contents (Elt F) arg2.view.ty) (k : Fin k0_t1_loop.trips) (hk : k.val < 58) :
    ld2 arg2 X2 k = sb (arg2.view.read (Elt F) X2) (gOf k.val) := by
  funext y
  refine congrArg (arg2.view.read (Elt F) X2) (funext fun a => Fin.ext ?_)
  show k0_off2 k a + 1 * (y a).val = _
  rw [k0_off2_eq]
  fin_cases a
  · have : (y 0).val < 1 := (y 0).isLt
    simp [ix2]
  · simp [ix2, gOf_of hk]

/-- The input tile that a trip of loop 3 loads. -/
theorem ld3_eq (arg1 : Memref sig .tc .vmem S256x7424 .bf16) (X1 : BufTy.Contents (Elt F) arg1.view.ty) (k : Fin k0_t3_loop.trips) (hk : k.val < 58) :
    ld3 arg1 X1 k = xb (arg1.view.read (Elt F) X1) 1 (gOf k.val) := by
  funext y
  refine congrArg (arg1.view.read (Elt F) X1) (funext fun a => Fin.ext ?_)
  show k0_off6 k a + 1 * (y a).val = _
  rw [k0_off6_eq]
  fin_cases a
  · simp [ix2]
  · simp [ix2, gOf_of hk]

/-- The signs that a trip of loop 3 loads. -/
theorem ld4_eq (arg2 : Memref sig .tc .vmem S1x7424 .f32) (X2 : BufTy.Contents (Elt F) arg2.view.ty) (k : Fin k0_t3_loop.trips) (hk : k.val < 58) :
    ld4 arg2 X2 k = sb (arg2.view.read (Elt F) X2) (gOf k.val) := by
  funext y
  refine congrArg (arg2.view.read (Elt F) X2) (funext fun a => Fin.ext ?_)
  show k0_off7 k a + 1 * (y a).val = _
  rw [k0_off7_eq]
  fin_cases a
  · have : (y 0).val < 1 := (y 0).isLt
    simp [ix2]
  · simp [ix2, gOf_of hk]

/-- The scratch at row `256 g + 128 h + 64 r₁ + r₂ + 8 s`. -/
theorem sv_at (B : Vec F S256x7424 .bf16) (S : Vec F S1x7424 .f32) (h : Fin 2) (g n : ℕ) (r₁ : Fin 2) (r₂ : Fin 8) (x : S8x128.Idx) (y : S14848x128.Idx)
    (h0 : (y 0).val = 256 * g + 128 * h.val + 64 * r₁.val + r₂.val + 8 * (x 0).val) (h1 : (y 1).val = (x 1).val) (hn : n = 8 * r₁.val + r₂.val) :
    sv B S y = sto (rb B S h (gOf g) n) x := by
  have e0 : (x 0).val < 8 := (x 0).isLt
  have e1 := h.isLt; have e2 := r₁.isLt; have e3 := r₂.isLt
  unfold sv
  subst hn
  obtain ⟨hv, hh⟩ := h
  obtain ⟨r₁, hr₁⟩ := r₁
  obtain ⟨r₂, hr₂⟩ := r₂
  simp only at h0 e1 e2 e3 ⊢
  have a1 : (⟨(y 0).val / 128 % 2, by omega⟩ : Fin 2) = ⟨hv, hh⟩ := Fin.ext (by show _ / 128 % 2 = hv; omega)
  have a2 : (y 0).val / 256 = g := by omega
  have a3 : 8 * ((y 0).val % 128 / 64) + (y 0).val % 8 = 8 * r₁ + r₂ := by omega
  rw [a1, a2, a3]
  congr 1
  funext a
  fin_cases a
  · exact Fin.ext (by show (y 0).val % 64 / 8 = (x 0).val; omega)
  · exact Fin.ext h1

/-- Where a strided store of loop 1 puts a row. -/
theorem emb1 (k : Fin k0_t1_loop.trips) (r₁ : Fin 2) (r₂ : Fin 8) (x : S8x128.Idx) :
    (((prect1 k r₁ r₂).emb x 0).val = 256 * k.val + 64 * r₁.val + r₂.val + 8 * (x 0).val) ∧ (((prect1 k r₁ r₂).emb x 1).val = (x 1).val) := by
  constructor
  · show k0_off3 k (BitVec.ofNat 32 (64 * r₁.val)) (BitVec.ofNat 32 r₂.val) 0 + 8 * (x 0).val = _
    rw [k0_off3_eq]; rfl
  · show k0_off3 k (BitVec.ofNat 32 (64 * r₁.val)) (BitVec.ofNat 32 r₂.val) 1 + 1 * (x 1).val = _
    rw [k0_off3_eq]; simp

/-- Where a strided store of loop 3 puts a row. -/
theorem emb3 (k : Fin k0_t3_loop.trips) (r₁ : Fin 2) (r₂ : Fin 8) (x : S8x128.Idx) :
    (((prect3 k r₁ r₂).emb x 0).val = 256 * k.val + 64 * r₁.val + r₂.val + 128 + 8 * (x 0).val) ∧ (((prect3 k r₁ r₂).emb x 1).val = (x 1).val) := by
  constructor
  · show k0_off8 k (BitVec.ofNat 32 (64 * r₁.val)) (BitVec.ofNat 32 r₂.val) 0 + 8 * (x 0).val = _
    rw [k0_off8_eq]; rfl
  · show k0_off8 k (BitVec.ofNat 32 (64 * r₁.val)) (BitVec.ofNat 32 r₂.val) 1 + 1 * (x 1).val = _
    rw [k0_off8_eq]; simp

/-- The sixteen stores of a trip of loop 1, one by one. -/
theorem mem_pieces1 (k : Fin k0_t1_loop.trips) (v : ℕ → FVec F S8x128 .f32) (p) :
    p ∈ pieces1 k v ↔ ∃ (r₁ : Fin 2) (r₂ : Fin 8), p = ⟨prect1 k r₁ r₂, sto (v (8 * r₁.val + r₂.val))⟩ := by
  constructor
  · intro h
    simp only [pieces1, List.mem_cons, List.not_mem_nil, or_false] at h
    rcases h with h|h|h|h|h|h|h|h|h|h|h|h|h|h|h|h
    · exact ⟨1, 7, h⟩
    · exact ⟨1, 6, h⟩
    · exact ⟨1, 5, h⟩
    · exact ⟨1, 4, h⟩
    · exact ⟨1, 3, h⟩
    · exact ⟨1, 2, h⟩
    · exact ⟨1, 1, h⟩
    · exact ⟨1, 0, h⟩
    · exact ⟨0, 7, h⟩
    · exact ⟨0, 6, h⟩
    · exact ⟨0, 5, h⟩
    · exact ⟨0, 4, h⟩
    · exact ⟨0, 3, h⟩
    · exact ⟨0, 2, h⟩
    · exact ⟨0, 1, h⟩
    · exact ⟨0, 0, h⟩
  · rintro ⟨r₁, r₂, rfl⟩
    fin_cases r₁ <;> fin_cases r₂ <;> simp [pieces1]

/-- The sixteen stores of a trip of loop 3, one by one. -/
theorem mem_pieces3 (k : Fin k0_t3_loop.trips) (v : ℕ → FVec F S8x128 .f32) (p) :
    p ∈ pieces3 k v ↔ ∃ (r₁ : Fin 2) (r₂ : Fin 8), p = ⟨prect3 k r₁ r₂, sto (v (8 * r₁.val + r₂.val))⟩ := by
  constructor
  · intro h
    simp only [pieces3, List.mem_cons, List.not_mem_nil, or_false] at h
    rcases h with h|h|h|h|h|h|h|h|h|h|h|h|h|h|h|h
    · exact ⟨1, 7, h⟩
    · exact ⟨1, 6, h⟩
    · exact ⟨1, 5, h⟩
    · exact ⟨1, 4, h⟩
    · exact ⟨1, 3, h⟩
    · exact ⟨1, 2, h⟩
    · exact ⟨1, 1, h⟩
    · exact ⟨1, 0, h⟩
    · exact ⟨0, 7, h⟩
    · exact ⟨0, 6, h⟩
    · exact ⟨0, 5, h⟩
    · exact ⟨0, 4, h⟩
    · exact ⟨0, 3, h⟩
    · exact ⟨0, 2, h⟩
    · exact ⟨0, 1, h⟩
    · exact ⟨0, 0, h⟩
  · rintro ⟨r₁, r₂, rfl⟩
    fin_cases r₁ <;> fin_cases r₂ <;> simp [pieces3]

/-- A trip of the first half extends the rows known to hold the rotated block. -/
theorem writes1 (arg5 : Memref sig .tc .vmem S14848x128 .f32) (f : BufTy.Contents (Elt F) arg5.view.ty) (k : Fin k0_t1_loop.trips) (hk : k.val < 58)
    (B : Vec F S256x7424 .bf16) (S : Vec F S1x7424 .f32)
    (hf : ∀ y : S14848x128.Idx, (y 0).val < 256 * k.val → (y 0).val % 256 < 128 → arg5.view.read (Elt F) f y = sv B S y)
    (y : S14848x128.Idx) (hy : (y 0).val < 256 * (k.val + 1)) (hy' : (y 0).val % 256 < 128) :
    arg5.view.read (Elt F) (arg5.view.writes (Elt F) f (pieces1 k (rb B S 0 (gOf k.val)))) y = sv B S y := by
  have y1 : (y 1).val < 128 := (y 1).isLt
  by_cases hc : 256 * k.val ≤ (y 0).val
  · refine View.read_writes_apply_of_pieces _ _ (sv B S) _ ?_ _ ?_
    · intro p hp x
      obtain ⟨r₁, r₂, rfl⟩ := (mem_pieces1 k _ p).1 hp
      refine (sv_at B S 0 k.val _ r₁ r₂ x _ ?_ (emb1 k r₁ r₂ x).2 rfl).symm
      rw [(emb1 k r₁ r₂ x).1]; simp
    · refine ⟨_, (mem_pieces1 k _ _).2 ⟨⟨(y 0).val % 128 / 64, by omega⟩, ⟨(y 0).val % 8, by omega⟩, rfl⟩, ?_⟩
      have : y = (prect1 k ⟨(y 0).val % 128 / 64, by omega⟩ ⟨(y 0).val % 8, by omega⟩).emb (ix2 (⟨(y 0).val % 64 / 8, by omega⟩ : Fin 8) (⟨(y 1).val, y1⟩ : Fin 128)) := by
        funext a
        fin_cases a
        · refine Fin.ext (Eq.trans ?_ (emb1 _ _ _ _).1.symm)
          show (y 0).val = 256 * k.val + 64 * ((y 0).val % 128 / 64) + (y 0).val % 8 + 8 * ((y 0).val % 64 / 8)
          omega
        · refine Fin.ext (Eq.trans ?_ (emb1 _ _ _ _).2.symm)
          rfl
      exact (congrArg (fun z => z ∈ (prect1 k ⟨(y 0).val % 128 / 64, by omega⟩ ⟨(y 0).val % 8, by omega⟩).set) this).mpr (LoadRect.idx_mem (prect1 k ⟨(y 0).val % 128 / 64, by omega⟩ ⟨(y 0).val % 8, by omega⟩).toLoadRect _)
  · rw [View.read_writes_apply_of_forall_not_mem]
    · exact hf y (by omega) hy'
    · intro p hp hm
      obtain ⟨r₁, r₂, rfl⟩ := (mem_pieces1 k _ p).1 hp
      obtain ⟨x, hx⟩ := LoadRect.exists_idx_of_mem _ hm
      have h0 := (emb1 k r₁ r₂ x).1
      have x0 : (x 0).val < 8 := (x 0).isLt
      have hx0 : (prect1 k r₁ r₂).emb x 0 = y 0 := congrFun hx 0
      rw [hx0] at h0
      have := r₁.isLt; have := r₂.isLt
      omega

/-- A trip of the second half extends the rows known to hold the rotated block. -/
theorem writes3 (arg5 : Memref sig .tc .vmem S14848x128 .f32) (f : BufTy.Contents (Elt F) arg5.view.ty) (k : Fin k0_t3_loop.trips) (hk : k.val < 58)
    (B : Vec F S256x7424 .bf16) (S : Vec F S1x7424 .f32)
    (hf : ∀ y : S14848x128.Idx, (y 0).val < 256 * k.val → 128 ≤ (y 0).val % 256 → arg5.view.read (Elt F) f y = sv B S y)
    (y : S14848x128.Idx) (hy : (y 0).val < 256 * (k.val + 1)) (hy' : 128 ≤ (y 0).val % 256) :
    arg5.view.read (Elt F) (arg5.view.writes (Elt F) f (pieces3 k (rb B S 1 (gOf k.val)))) y = sv B S y := by
  have y1 : (y 1).val < 128 := (y 1).isLt
  by_cases hc : 256 * k.val ≤ (y 0).val
  · refine View.read_writes_apply_of_pieces _ _ (sv B S) _ ?_ _ ?_
    · intro p hp x
      obtain ⟨r₁, r₂, rfl⟩ := (mem_pieces3 k _ p).1 hp
      refine (sv_at B S 1 k.val _ r₁ r₂ x _ ?_ (emb3 k r₁ r₂ x).2 rfl).symm
      rw [(emb3 k r₁ r₂ x).1]; simp; omega
    · refine ⟨_, (mem_pieces3 k _ _).2 ⟨⟨(y 0).val % 128 / 64, by omega⟩, ⟨(y 0).val % 8, by omega⟩, rfl⟩, ?_⟩
      have : y = (prect3 k ⟨(y 0).val % 128 / 64, by omega⟩ ⟨(y 0).val % 8, by omega⟩).emb (ix2 (⟨(y 0).val % 64 / 8, by omega⟩ : Fin 8) (⟨(y 1).val, y1⟩ : Fin 128)) := by
        funext a
        fin_cases a
        · refine Fin.ext (Eq.trans ?_ (emb3 _ _ _ _).1.symm)
          show (y 0).val = 256 * k.val + 64 * ((y 0).val % 128 / 64) + (y 0).val % 8 + 128 + 8 * ((y 0).val % 64 / 8)
          omega
        · refine Fin.ext (Eq.trans ?_ (emb3 _ _ _ _).2.symm)
          rfl
      exact (congrArg (fun z => z ∈ (prect3 k ⟨(y 0).val % 128 / 64, by omega⟩ ⟨(y 0).val % 8, by omega⟩).set) this).mpr (LoadRect.idx_mem (prect3 k ⟨(y 0).val % 128 / 64, by omega⟩ ⟨(y 0).val % 8, by omega⟩).toLoadRect _)
  · rw [View.read_writes_apply_of_forall_not_mem]
    · exact hf y (by omega) hy'
    · intro p hp hm
      obtain ⟨r₁, r₂, rfl⟩ := (mem_pieces3 k _ p).1 hp
      obtain ⟨x, hx⟩ := LoadRect.exists_idx_of_mem _ hm
      have h0 := (emb3 k r₁ r₂ x).1
      have x0 : (x 0).val < 8 := (x 0).isLt
      have hx0 : (prect3 k r₁ r₂).emb x 0 = y 0 := congrFun hx 0
      rw [hx0] at h0
      have := r₁.isLt; have := r₂.isLt
      omega

/-- A trip of the second half leaves the first half's rows alone. -/
theorem writes3_keep (arg5 : Memref sig .tc .vmem S14848x128 .f32) (f : BufTy.Contents (Elt F) arg5.view.ty) (k : Fin k0_t3_loop.trips) (v : ℕ → FVec F S8x128 .f32)
    (y : S14848x128.Idx) (hy' : (y 0).val % 256 < 128) :
    arg5.view.read (Elt F) (arg5.view.writes (Elt F) f (pieces3 k v)) y = arg5.view.read (Elt F) f y := by
  rw [View.read_writes_apply_of_forall_not_mem]
  intro p hp hm
  obtain ⟨r₁, r₂, rfl⟩ := (mem_pieces3 k _ p).1 hp
  obtain ⟨x, hx⟩ := LoadRect.exists_idx_of_mem _ hm
  have h0 := (emb3 k r₁ r₂ x).1
  have x0 : (x 0).val < 8 := (x 0).isLt
  have hx0 : (prect3 k r₁ r₂).emb x 0 = y 0 := congrFun hx 0
  rw [hx0] at h0
  have := r₁.isLt; have := r₂.isLt
  omega

/-! ## The quantising loops -/

/-- Block `(h, g)` of what the scratch holds. -/
def cb (W : Vec F S14848x128 .f32) (h : Fin 2) (g : Fin 58) : Vec F S128x128 .f32 := fun z =>
  W (ix2 (⟨256 * g.val + 128 * h.val + (z 0).val, by have := g.isLt; have := h.isLt; have : (z 0).val < 128 := (z 0).isLt; omega⟩ : Fin 14848) (z 1))

/-- The codes' block whose half `h` is quantised by `q h`. -/
def cv (q : Fin 2 → Vec F S128x128 .f32 → FVec F S128x128 .fp8e4m3) (W : Vec F S14848x128 .f32) : Vec F S256x7424 .fp8e4m3 := fun y =>
  have h0 : (y 0).val < 256 := (y 0).isLt
  have h1 : (y 1).val < 7424 := (y 1).isLt
  q ⟨(y 0).val / 128, by omega⟩ (cb W ⟨(y 0).val / 128, by omega⟩ (gOf ((y 1).val / 128)))
    (ix2 (⟨(y 0).val % 128, by omega⟩ : Fin 128) (⟨(y 1).val % 128, by omega⟩ : Fin 128))

/-- The codes' rectangle of half `h` in trip `g`. -/
def crect (h : Fin 2) (g : ℕ) (hg : g < 58) : Rect S256x7424 :=
  Rect.unit (s := S256x7424) ![128 * h.val, 128 * g] S128x128.size (fun a => by
    have := h.isLt
    fin_cases a
    · show 128 * h.val + 128 ≤ 256; omega
    · show 128 * g + 128 ≤ 7424; omega)

/-- A block of codes written by trip `g` of half `h` extends the columns known. -/
theorem cwrite (q : Fin 2 → Vec F S128x128 .f32 → FVec F S128x128 .fp8e4m3) (W : Vec F S14848x128 .f32) (h : Fin 2) (g : ℕ) (hg : g < 58)
    (arg3 : Memref sig .tc .vmem S256x7424 .fp8e4m3) (f : BufTy.Contents (Elt F) arg3.view.ty) (r : Rect S256x7424) (hr : r = crect h g hg)
    (w : r.shape.Idx → Elt F .fp8e4m3) (hw : HEq w (q h (cb W h (gOf g))))
    (hf : ∀ y : S256x7424.Idx, (y 0).val / 128 < h.val ∨ ((y 0).val / 128 = h.val ∧ (y 1).val < 128 * g) → arg3.view.read (Elt F) f y = cv q W y)
    (y : S256x7424.Idx) (hy : (y 0).val / 128 < h.val ∨ ((y 0).val / 128 = h.val ∧ (y 1).val < 128 * (g + 1))) :
    arg3.view.read (Elt F) (arg3.view.writes (Elt F) f [⟨r, w⟩]) y = cv q W y := by
  subst hr
  obtain rfl := eq_of_heq hw
  have hh := h.isLt
  have y0 : (y 0).val < 256 := (y 0).isLt
  have y1 : (y 1).val < 7424 := (y 1).isLt
  by_cases hc : (y 0).val / 128 = h.val ∧ 128 * g ≤ (y 1).val
  · refine (View.read_writes_cons_hit_of_coords arg3.view f _ _ [] (ix2 (⟨(y 0).val % 128, by omega⟩ : Fin 128) (⟨(y 1).val % 128, by omega⟩ : Fin 128)) y ?_).trans ?_
    · intro a
      fin_cases a
      · show (y 0).val = 128 * h.val + 1 * ((y 0).val % 128); omega
      · show (y 1).val = 128 * g + 1 * ((y 1).val % 128); omega
    · have e1 : (⟨(y 0).val / 128, by omega⟩ : Fin 2) = h := Fin.ext hc.1
      have e2 : (y 1).val / 128 = g := by omega
      unfold cv
      simp only [e1, e2]
  · have hy' : (y 0).val / 128 < h.val ∨ ((y 0).val / 128 = h.val ∧ (y 1).val < 128 * g) := by omega
    rw [View.read_writes_cons_miss, View.writes_nil]
    · exact hf y hy'
    · intro hm
      obtain ⟨x, hx⟩ := LoadRect.exists_idx_of_mem _ hm
      have x0 : (x 0).val < 128 := (x 0).isLt
      have a0 : 128 * h.val + 1 * (x 0).val = (y 0).val := congrArg Fin.val (congrFun hx 0)
      have a1 : 128 * g + 1 * (x 1).val = (y 1).val := congrArg Fin.val (congrFun hx 1)
      omega

/-- The scratch rows that the quantising trip reads. -/
theorem cload (h : Fin 2) (g : ℕ) (hg : g < 58) (arg5 : Memref sig .tc .vmem S14848x128 .f32) (f : BufTy.Contents (Elt F) arg5.view.ty) (W : Vec F S14848x128 .f32)
    (off : Fin 2 → ℕ) (inb) (ho : off = ![256 * g + 128 * h.val, 0])
    (hf : ∀ y : S14848x128.Idx, (y 0).val / 128 % 2 = h.val → arg5.view.read (Elt F) f y = W y) :
    View.readAt (Elt F) arg5.view (Rect.unit (s := S14848x128) off S128x128.size inb).toLoadRect f = cb W h (gOf g) := by
  subst ho
  have hh := h.isLt
  funext z
  have z0 : (z 0).val < 128 := (z 0).isLt
  refine (hf _ ?_).trans (congrArg W (funext fun a => Fin.ext ?_))
  · show (256 * g + 128 * h.val + 1 * (z 0).val) / 128 % 2 = h.val
    omega
  · fin_cases a
    · show 256 * g + 128 * h.val + 1 * (z 0).val = 256 * (gOf g).val + 128 * h.val + (z 0).val
      rw [gOf_of hg]; omega
    · show 0 + 1 * (z 1).val = (z 1).val
      omega

end Cert.Rotate.Hand
end
-- ==== Proof.BitBody.lean ====
module

public import proofs.«01_k».proof.Proof.BitRun

@[expose] public section

set_option maxRecDepth 16384
set_option maxHeartbeats 4000000

/-! The kernel's body as a triple, from the four loops' trips. -/

noncomputable section

namespace Cert.Rotate.Hand
open Cert.Rotate Cert.Rotate.Gen
open Idealize.ShloMosaic hiding ix2 eq_ix2 ix3
open Idealize.ShloMosaic.ValueIdx (ix2 eq_ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The exponent words of the first half's scales. -/
def w80 (a : FVec F S8x128 .f32) : IVec S1x128 32 := k0_pay411 (k0_pay409 a) (k0_pay410 a) 32#32
/-- The first half's test for an exponent out of range. -/
def w85 (a : FVec F S8x128 .f32) : IVec S1x128 1 := k0_pay412 (k0_pay409 a) (k0_pay410 a) 32#32
/-- The exponent words of the second half's scales. -/
def w164 (a : FVec F S8x128 .f32) : IVec S1x128 32 := k0_pay422 (k0_pay418 a) k0_pay419 k0_pay420 k0_pay421

/-- How each half is quantised, from its largest magnitudes. -/
def qf (a0 a1 : FVec F S8x128 .f32) (h : Fin 2) (v : Vec F S128x128 .f32) : FVec F S128x128 .fp8e4m3 :=
  if h.val = 0 then k0_pay415 (w80 a0) (w85 a0) v else k0_pay3 (k0_pay418 a1) (w164 a1) k0_pay423 v

/-- The block of codes the body leaves. -/
def outC (B : Vec F S256x7424 .bf16) (S : Vec F S1x7424 .f32) : Vec F S256x7424 .fp8e4m3 :=
  cv (qf (am B S 0 58) (am B S 1 58)) (sv B S)

/-- The block of scales the body leaves. -/
def outS (B : Vec F S256x7424 .bf16) (S : Vec F S1x7424 .f32) : Vec F S1x2x128 .f32 := fun y =>
  if (y 1).val = 0 then k0_pay414 (w80 (am B S 0 58)) (w85 (am B S 0 58)) (ix3 (0 : Fin 1) (0 : Fin 1) (y 2))
  else k0_pay2 (k0_pay418 (am B S 1 58)) (w164 (am B S 1 58)) k0_pay423 (ix3 (0 : Fin 1) (0 : Fin 1) (y 2))

/-- A unit rectangle depends on its offset only. -/
theorem unit_eq {s : Shape} {off off' size : Fin s.rank → ℕ} (h : off = off') (i1) (i2) : Rect.unit (s := s) off size i1 = Rect.unit (s := s) off' size i2 := by
  subst h; rfl

section
variable (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole)
variable (X1 : BufTy.Contents (Elt F) arg1.view.ty) (X2 : BufTy.Contents (Elt F) arg2.view.ty) (B : Vec F S256x7424 .bf16) (S : Vec F S1x7424 .f32)

/-- After `n` trips of the first rotation loop. -/
def I1 (n : ℕ) (acc : FVec F S8x128 .f32) : sProp 𝕄 :=
  iprop(∃ f, (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f)
    ∗ ⌜acc = am B S 0 n ∧ ∀ y : S14848x128.Idx, (y 0).val < 256 * n → (y 0).val % 256 < 128 → arg5.view.read (Elt F) f y = sv B S y⌝)

/-- After `n` trips of the second rotation loop. -/
def I3 (n : ℕ) (acc : FVec F S8x128 .f32) : sProp 𝕄 :=
  iprop(∃ f, (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f)
    ∗ ⌜acc = am B S 1 n ∧ (∀ y : S14848x128.Idx, (y 0).val < 256 * n → 128 ≤ (y 0).val % 256 → arg5.view.read (Elt F) f y = sv B S y)
      ∧ (∀ y : S14848x128.Idx, (y 0).val % 256 < 128 → arg5.view.read (Elt F) f y = sv B S y)⌝)

/-- After `n` trips of half `h`'s quantising loop. -/
def I2 (h : Fin 2) (q : Fin 2 → Vec F S128x128 .f32 → FVec F S128x128 .fp8e4m3) (f5 : BufTy.Contents (Elt F) arg5.view.ty) (n : ℕ) : sProp 𝕄 :=
  iprop(∃ f, (arg3.view.loc (c : Thread nD τ) ↦[arg3.view.set]{fullShare} f) ∗ (arg5.view.loc (c : Thread nD τ) ↦[arg5.view.set]{fullShare} f5)
    ∗ ⌜∀ y : S256x7424.Idx, (y 0).val / 128 < h.val ∨ ((y 0).val / 128 = h.val ∧ (y 1).val < 128 * n) → arg3.view.read (Elt F) f y = cv q (sv B S) y⌝)

variable (𝒱 : Variants) (E : Set ℕ)

/-- A trip of rotation loop 1 keeps its invariant. -/
theorem step1 (hX1 : arg1.view.read (Elt F) X1 = B) (hX2 : arg2.view.read (Elt F) X2 = S) (k : Fin k0_t1_loop.trips) (acc : FVec F S8x128 .f32) :
    I1 c arg1 arg2 arg5 X1 X2 B S k.val acc ⊢ (wp frame (wpE (defs₀ (F := F)) 𝒱 (c : Thread nD τ) none) E (k0_t1_body (F := F) i arg1 harg1 arg2 harg2 arg3 harg3 arg4 harg4 arg5 harg5 k acc)
      (fun yld => I1 c arg1 arg2 arg5 X1 X2 B S (k.val + 1) yld) : sProp 𝕄) := by
  have hk : k.val < 58 := Nat.lt_of_lt_of_le k.isLt k0_t1_abs.2.1
  unfold I1
  iintro ⟨%f, H1, H2, H5, %hf⟩
  iapply (wp_wand_r _ _ _)
  isplitl [H1 H2 H5]
  · iapply (trip1 𝒱 c i arg1 harg1 arg2 harg2 arg3 harg3 arg4 harg4 arg5 harg5 X1 X2 f k acc E)
    isplitl [H1]; · iexact H1
    isplitl [H2]; · iexact H2
    iexact H5
  iintro %a ⟨%f', H1, H2, H5, %hf'⟩
  iexists f'
  isplitl [H1]; · iexact H1
  isplitl [H2]; · iexact H2
  isplitl [H5]; · iexact H5
  ipureintro
  obtain ⟨rfl, rfl⟩ := hf'
  rw [ld1_eq arg1 X1 k hk, ld2_eq arg2 X2 k hk, hX1, hX2]
  exact ⟨by rw [hf.1]; rfl, fun y hy hy' => writes1 arg5 f k hk B S hf.2 y hy hy'⟩

/-- A trip of rotation loop 3 keeps its invariant. -/
theorem step3 (hX1 : arg1.view.read (Elt F) X1 = B) (hX2 : arg2.view.read (Elt F) X2 = S) (v80 : IVec S1x128 32) (v85 : IVec S1x128 1) (k : Fin k0_t3_loop.trips) (acc : FVec F S8x128 .f32) :
    I3 c arg1 arg2 arg5 X1 X2 B S k.val acc ⊢ (wp frame (wpE (defs₀ (F := F)) 𝒱 (c : Thread nD τ) none) E (k0_t3_body (F := F) i arg1 harg1 arg2 harg2 arg3 harg3 arg4 harg4 arg5 harg5 k0_pay404 k0_pay405 k0_pay406 v80 v85 k acc)
      (fun yld => I3 c arg1 arg2 arg5 X1 X2 B S (k.val + 1) yld) : sProp 𝕄) := by
  have hk : k.val < 58 := Nat.lt_of_lt_of_le k.isLt k0_t3_abs.2.1
  unfold I3
  iintro ⟨%f, H1, H2, H5, %hf⟩
  iapply (wp_wand_r _ _ _)
  isplitl [H1 H2 H5]
  · iapply (trip3 𝒱 c i arg1 harg1 arg2 harg2 arg3 harg3 arg4 harg4 arg5 harg5 X1 X2 f k acc k0_pay404 k0_pay405 k0_pay406 v80 v85 E)
    isplitl [H1]; · iexact H1
    isplitl [H2]; · iexact H2
    iexact H5
  iintro %a ⟨%f', H1, H2, H5, %hf'⟩
  iexists f'
  isplitl [H1]; · iexact H1
  isplitl [H2]; · iexact H2
  isplitl [H5]; · iexact H5
  ipureintro
  obtain ⟨rfl, rfl⟩ := hf'
  rw [ld3_eq arg1 X1 k hk, ld4_eq arg2 X2 k hk, hX1, hX2]
  exact ⟨by rw [hf.1]; rfl, fun y hy hy' => writes3 arg5 f k hk B S hf.2.1 y hy hy',
    fun y hy' => (writes3_keep arg5 f k _ y hy').trans (hf.2.2 y hy')⟩

/-- A trip of quantising loop 2 keeps its invariant. -/
theorem step2 (v4 v9 v14 : IVec S8x128 1) (v80 : IVec S1x128 32) (v85 : IVec S1x128 1) (q : Fin 2 → Vec F S128x128 .f32 → FVec F S128x128 .fp8e4m3)
    (hq : q 0 = k0_pay415 v80 v85) (f5 : BufTy.Contents (Elt F) arg5.view.ty)
    (h5 : ∀ y : S14848x128.Idx, (y 0).val / 128 % 2 = (0 : Fin 2).val → arg5.view.read (Elt F) f5 y = sv B S y)
    (k : Fin k0_t2_loop.trips) :
    I2 c arg3 arg5 B S 0 q f5 k.val ⊢ (wp frame (wpE (defs₀ (F := F)) 𝒱 (c : Thread nD τ) none) E (k0_t2_body (F := F) i arg1 harg1 arg2 harg2 arg3 harg3 arg4 harg4 arg5 harg5 v4 v9 v14 v80 v85 k ⟨⟩)
      (fun _ => I2 c arg3 arg5 B S 0 q f5 (k.val + 1)) : sProp 𝕄) := by
  have hk : k.val < 58 := Nat.lt_of_lt_of_le k.isLt k0_t2_abs.2.1
  unfold I2 k0_t2_body
  iintro ⟨%f, H3, H5, %hf⟩
  sl_exec
  sl_step
  iexists _
  isplitl [H3]; · iexact H3
  isplitl [H5]; · iexact H5
  ipureintro
  intro y hy
  refine cwrite q (sv B S) 0 k.val hk arg3 f _ (unit_eq (k0_off5_eq k) _ _) _ (heq_of_eq ?_) hf y hy
  rw [hq]
  exact congrArg _ (cload 0 k.val hk arg5 f5 (sv B S) _ _ ((k0_off4_eq k).trans rfl) h5)

/-- A trip of quantising loop 4 keeps its invariant. -/
theorem step4 (v114 : FVec F S1x128 .f32) (v164 : IVec S1x128 32) (v165 : IVec S1x128 32) (q : Fin 2 → Vec F S128x128 .f32 → FVec F S128x128 .fp8e4m3)
    (hq : q 1 = k0_pay3 v114 v164 v165) (f5 : BufTy.Contents (Elt F) arg5.view.ty)
    (h5 : ∀ y : S14848x128.Idx, (y 0).val / 128 % 2 = (1 : Fin 2).val → arg5.view.read (Elt F) f5 y = sv B S y)
    (k : Fin k0_t4_loop.trips) :
    I2 c arg3 arg5 B S 1 q f5 k.val ⊢ (wp frame (wpE (defs₀ (F := F)) 𝒱 (c : Thread nD τ) none) E (k0_t4_body (F := F) i arg1 harg1 arg2 harg2 arg3 harg3 arg4 harg4 arg5 harg5 v114 v164 v165 k ⟨⟩)
      (fun _ => I2 c arg3 arg5 B S 1 q f5 (k.val + 1)) : sProp 𝕄) := by
  have hk : k.val < 58 := Nat.lt_of_lt_of_le k.isLt k0_t4_abs.2.1
  unfold I2 k0_t4_body
  iintro ⟨%f, H3, H5, %hf⟩
  sl_exec
  sl_step
  iexists _
  isplitl [H3]; · iexact H3
  isplitl [H5]; · iexact H5
  ipureintro
  intro y hy
  refine cwrite q (sv B S) 1 k.val hk arg3 f _ (unit_eq (k0_off10_eq k) _ _) _ (heq_of_eq ?_) hf y hy
  rw [hq]
  exact congrArg _ (cload 1 k.val hk arg5 f5 (sv B S) _ _ ((k0_off9_eq k).trans rfl) h5)

end

end Cert.Rotate.Hand
end
-- ==== Proof.BitMain.lean ====
module

public import proofs.«01_k».proof.Proof.BitBody

@[expose] public section

set_option maxRecDepth 16384
set_option maxHeartbeats 4000000

/-! The kernel's run: the body's triple, the pipeline's proof data, the frame. -/

noncomputable section

namespace Cert.Rotate.Hand
open Cert.Rotate Cert.Rotate.Gen
open Idealize.ShloMosaic hiding ix2 eq_ix2 ix3
open Idealize.ShloMosaic.ValueIdx (ix2 eq_ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

abbrev 𝒱₀ : Variants := Variants.none

/-- Loop 1 makes 58 trips, one a group. -/
theorem trips1 : k0_t1_loop.trips = 58 := by decide +kernel
/-- Loop 2 makes 58 trips, one a group. -/
theorem trips2 : k0_t2_loop.trips = 58 := by decide +kernel
/-- Loop 3 makes 58 trips, one a group. -/
theorem trips3 : k0_t3_loop.trips = 58 := by decide +kernel
/-- Loop 4 makes 58 trips, one a group. -/
theorem trips4 : k0_t4_loop.trips = 58 := by decide +kernel

/-- Two stored rows read back row by row. -/
theorem rowsRead (p q : FVec F S1x1x128 .f32) (arg4 : Memref sig .tc .vmem S1x2x128 .f32) (f : BufTy.Contents (Elt F) arg4.view.ty) (y : S1x2x128.Idx) :
    arg4.view.read (Elt F) (arg4.view.writes (Elt F) f
      [⟨Rect.unit (s := S1x2x128) ![0, 1, 0] S1x1x128.size inb_S1x2x128_S1x1x128_0_1_0, q⟩,
       ⟨Rect.unit (s := S1x2x128) ![0, 0, 0] S1x1x128.size inb_S1x2x128_S1x1x128_0_0_0, p⟩]) y
      = if (y 1).val = 0 then p (ix3 (0 : Fin 1) (0 : Fin 1) (y 2)) else q (ix3 (0 : Fin 1) (0 : Fin 1) (y 2)) := by
  have y0 : (y 0).val < 1 := (y 0).isLt
  have y1 : (y 1).val < 2 := (y 1).isLt
  by_cases hy : (y 1).val = 0
  · rw [if_pos hy, View.read_writes_cons_miss]
    · refine View.read_writes_cons_hit_of_coords arg4.view f (Rect.unit (s := S1x2x128) ![0, 0, 0] S1x1x128.size inb_S1x2x128_S1x1x128_0_0_0) p [] (ix3 (0 : Fin 1) (0 : Fin 1) (⟨(y 2).val, (y 2).isLt⟩ : Fin 128)) y ?_
      intro a
      fin_cases a
      · show (y 0).val = 0 + 1 * 0; omega
      · show (y 1).val = 0 + 1 * 0; omega
      · show (y 2).val = 0 + 1 * (y 2).val; omega
    · intro hm
      obtain ⟨x, hx⟩ := LoadRect.exists_idx_of_mem _ hm
      have a1 : 1 + 1 * (x 1).val = (y 1).val := congrArg Fin.val (congrFun hx 1)
      omega
  · rw [if_neg hy]
    refine View.read_writes_cons_hit_of_coords arg4.view f (Rect.unit (s := S1x2x128) ![0, 1, 0] S1x1x128.size inb_S1x2x128_S1x1x128_0_1_0) q _ (ix3 (0 : Fin 1) (0 : Fin 1) (⟨(y 2).val, (y 2).isLt⟩ : Fin 128)) y ?_
    intro a
    fin_cases a
    · show (y 0).val = 0 + 1 * 0; omega
    · show (y 1).val = 1 + 1 * 0; omega
    · show (y 2).val = 0 + 1 * (y 2).val; omega

/-- The body on whole staging memrefs: the two inputs kept, the codes and the scales left at `outC` and `outS`. -/
theorem kernelRun (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole)
    (B : Vec F S256x7424 .bf16) (S : Vec F S1x7424 .f32) (E : Set ℕ) (K : PUnit → sProp 𝕄) :
    iprop(owns (c : Thread nD τ) arg1 fullShare B ∗ owns (c : Thread nD τ) arg2 fullShare S ∗ (∃ d, owns (c : Thread nD τ) arg3 fullShare d) ∗ (∃ d, owns (c : Thread nD τ) arg4 fullShare d)
        ∗ (∃ f, arg5.view.loc (c : Thread nD τ) ↦[arg5.view.set]{fullShare} f)
        ∗ (iprop(owns (c : Thread nD τ) arg1 fullShare B ∗ owns (c : Thread nD τ) arg2 fullShare S ∗ owns (c : Thread nD τ) arg3 fullShare (outC B S) ∗ owns (c : Thread nD τ) arg4 fullShare (outS B S)
            ∗ (∃ f, arg5.view.loc (c : Thread nD τ) ↦[arg5.view.set]{fullShare} f)) -∗ K ⟨⟩))
      ⊢ wp frame (wpE (defs₀ (F := F)) 𝒱₀ c none) E (cc0_rotate_quantise i arg1 harg1 arg2 harg2 arg3 harg3 arg4 harg4 arg5 harg5) K := by
  unfold owns
  iintro ⟨⟨%X1, %hX1, H1⟩, ⟨%X2, %hX2, H2⟩, ⟨%d3, %f3, -, H3⟩, ⟨%d4, %f4, -, H4⟩, ⟨%f5, H5⟩, Hk⟩
  sl_unfold [cc0_rotate_quantise]
  sl_exec
  sl_for (I1 c arg1 arg2 arg5 X1 X2 B S) $$ [H1 H2 H5]
  case region =>
    intro k acc
    exact step1 c i arg1 harg1 arg2 harg2 arg3 harg3 arg4 harg4 arg5 harg5 X1 X2 B S 𝒱₀ E hX1 hX2 k acc
  · unfold I1
    iexists f5
    isplitl [H1]; · iexact H1
    isplitl [H2]; · iexact H2
    isplitl [H5]; · iexact H5
    ipureintro
    exact ⟨rfl, fun y hy _ => absurd hy (by omega)⟩
  unfold I1
  iintro %a ⟨%g1, H1, H2, H5, %h1⟩
  have e1 : Scf.trips k0_t1_loop.lb k0_t1_loop.ub k0_t1_loop.st = 58 := trips1
  rw [e1] at h1
  obtain ⟨rfl, h1⟩ := h1
  sl_exec
  sl_for (fun n _ => I2 c arg3 arg5 B S 0 (qf (am B S 0 58) (am B S 1 58)) g1 n) $$ [H3 H5]
  case region =>
    intro k _
    exact step2 c i arg1 harg1 arg2 harg2 arg3 harg3 arg4 harg4 arg5 harg5 B S 𝒱₀ E _ _ _ _ _ _ (by funext v; rfl) g1
      (fun y hy => h1 y (by have : (y 0).val < 14848 := (y 0).isLt; omega) (by have : (y 0).val / 128 % 2 = 0 := hy; omega)) k
  · unfold I2
    iexists f3
    isplitl [H3]; · iexact H3
    isplitl [H5]; · iexact H5
    ipureintro
    intro y hy
    exact absurd hy (by simp)
  unfold I2
  iintro %_ ⟨%g3, H3, H5, %h2⟩
  have e2 : Scf.trips k0_t2_loop.lb k0_t2_loop.ub k0_t2_loop.st = 58 := trips2
  rw [e2] at h2
  sl_exec
  sl_for (I3 c arg1 arg2 arg5 X1 X2 B S) $$ [H1 H2 H5]
  case region =>
    intro k acc
    exact step3 c i arg1 harg1 arg2 harg2 arg3 harg3 arg4 harg4 arg5 harg5 X1 X2 B S 𝒱₀ E hX1 hX2 _ _ k acc
  · unfold I3
    iexists g1
    isplitl [H1]; · iexact H1
    isplitl [H2]; · iexact H2
    isplitl [H5]; · iexact H5
    ipureintro
    exact ⟨rfl, fun y hy _ => absurd hy (by omega), fun y hy => h1 y (by have : (y 0).val < 14848 := (y 0).isLt; omega) hy⟩
  unfold I3
  iintro %a ⟨%g5, H1, H2, H5, %h3⟩
  have e3 : Scf.trips k0_t3_loop.lb k0_t3_loop.ub k0_t3_loop.st = 58 := trips3
  rw [e3] at h3
  obtain ⟨rfl, h3, h3'⟩ := h3
  have hg5 : ∀ y : S14848x128.Idx, arg5.view.read (Elt F) g5 y = sv B S y := fun y => by
    have : (y 0).val < 14848 := (y 0).isLt
    by_cases hy : (y 0).val % 256 < 128
    · exact h3' y hy
    · exact h3 y (by omega) (by omega)
  sl_exec
  sl_for (fun n _ => I2 c arg3 arg5 B S 1 (qf (am B S 0 58) (am B S 1 58)) g5 n) $$ [H3 H5]
  case region =>
    intro k _
    exact step4 c i arg1 harg1 arg2 harg2 arg3 harg3 arg4 harg4 arg5 harg5 B S 𝒱₀ E _ _ _ _ (by funext v; rfl) g5
      (fun y _ => hg5 y) k
  · unfold I2
    iexists g3
    isplitl [H3]; · iexact H3
    isplitl [H5]; · iexact H5
    ipureintro
    intro y hy
    refine h2 y (.inr ?_)
    have : (y 1).val < 7424 := (y 1).isLt
    have : (y 0).val / 128 < 1 ∨ ((y 0).val / 128 = 1 ∧ (y 1).val < 128 * 0) := hy
    exact ⟨by show (y 0).val / 128 = 0; omega, by omega⟩
  unfold I2
  iintro %_ ⟨%g6, H3, H5, %h4⟩
  have e4 : Scf.trips k0_t4_loop.lb k0_t4_loop.ub k0_t4_loop.st = 58 := trips4
  rw [e4] at h4
  sl_exec
  sl_step
  iapply Hk
  isplitl [H1]
  · iexists _; isplitr; · ipureintro; exact hX1
    iexact H1
  isplitl [H2]
  · iexists _; isplitr; · ipureintro; exact hX2
    iexact H2
  isplitl [H3]
  · iexists _; isplitr; swap; · iexact H3
    ipureintro
    funext y
    refine h4 y ?_
    have : (y 1).val < 7424 := (y 1).isLt
    have : (y 0).val < 256 := (y 0).isLt
    show (y 0).val / 128 < 1 ∨ ((y 0).val / 128 = 1 ∧ (y 1).val < 128 * 58)
    omega
  isplitl [H4]
  · iexists _; isplitr; swap; · iexact H4
    ipureintro
    funext y
    exact rowsRead _ _ arg4 _ y
  iexists _; iexact H5

variable (m : (ℓ : Loc nD τ sig) → Buf (Elt F) ℓ) (ρ : Dev nD → PrngReg)

/-- The pipeline's proof data: the inputs kept at their blocks, the outputs at `outC` and `outS` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outC (iblk m c 0 t) (iblk m c 1 t)
    | ⟨3, _⟩ => outS (iblk m c 0 t) (iblk m c 1 t)
  Φ _ := Pipeline.ΦA spec0 c
  q _ := fullShare
  owed _ := 0

/-- Each window's array holds what it held when the call starts. -/
theorem A_eq (c : Dev nD) (w : Fin cfg0.W) : (dats m 0 c).A w = V m c (Pipeline.arrRef spec0 w) := rfl
/-- The first input keeps its block. -/
theorem after0_0 (c : Dev nD) (t : Fin cfg0.N) : (dats m 0 c).after 0 t = iblk m c 0 t := by dsimp only [dats]
/-- The second input keeps its block. -/
theorem after0_1 (c : Dev nD) (t : Fin cfg0.N) : (dats m 0 c).after 1 t = iblk m c 1 t := by dsimp only [dats]
/-- The codes' block after the body. -/
theorem after0_2 (c : Dev nD) (t : Fin cfg0.N) : (dats m 0 c).after 2 t = outC (iblk m c 0 t) (iblk m c 1 t) := by dsimp only [dats]
/-- The scales' block after the body. -/
theorem after0_3 (c : Dev nD) (t : Fin cfg0.N) : (dats m 0 c).after 3 t = outS (iblk m c 0 t) (iblk m c 1 t) := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
/-- The second input's staging buffer holds its block when the body runs. -/
theorem before0_1 (c : Dev nD) (t : Fin cfg0.N) (d) : (dats m 0 c).before 1 t d = iblk m c 1 t :=
  before0_1_of m (dats m 0 c) (A_eq m c 1) (after0_1 m c) t d

/-- The scratch held whole, in the two spellings. -/
theorem scr (c : Dev nD) : (iprop(∃ f, (Memref.whole cc0_scratch0 : Memref sig .tc _ _ _).view.loc (c : Thread nD τ) ↦[(Memref.whole cc0_scratch0 : Memref sig .tc _ _ _).view.set]{fullShare} f) : sProp 𝕄)
    = iprop(∃ f : Buf (Elt F) ((c : Thread nD τ).loc cc0_scratch0), ((c : Thread nD τ).loc cc0_scratch0) ↦{fullShare} f) := by
  have h : (Memref.whole cc0_scratch0 : Memref sig .tc _ _ _).view.set = Finset.univ := View.set_whole _
  rw [h]

/-- The body obligation of the pipeline. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold Pipeline.ΦA
  rw [scopedRest0_eq]
  rw [← scr c]
  iintro ⟨⟨H5, Hp⟩, Ho, ⟨%d0, H0⟩, ⟨%d1, H1⟩, ⟨%d2, H2⟩, ⟨%d3, H3⟩⟩
  iapply (kernelRun c _ _ _ _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  isplitl [H5]; · iexact H5
  iintro ⟨H0, H1, H2, H3, H5⟩
  isplitl [Hp H5]
  · isplitl [H5]
    · iexact H5
    · iexact Hp
  isplitl [Ho]; · iexact Ho
  isplitl [H0]; · iexact H0
  isplitl [H1]; · iexact H1
  isplitl [H2]; · iexact H2
  iexact H3

set_option backward.isDefEq.respectTransparency.types false in
/-- From any memory with zero counters the program runs to the arrays the proof data give. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Rotate.Hand
end
-- ==== Proof.RotTrip.lean ====
module

public import proofs.«01_k».proof.Proof.Gen.RotateIdeal.Frame
public import proofs.«01_k».proof.Proof.Gen.RotateIdeal.Skeleton
public import Idealize.ShloMosaic.Lib.Pipeline.ValueKit

@[expose] public section

set_option maxRecDepth 16384
set_option maxHeartbeats 4000000

/-! One trip of each of the two rotation loops, run on any format model: the sixteen strided stores
    leave the rotated block in the scratch, and the carried maximum takes in the block's entries. -/

noncomputable section

namespace Cert.RotateIdeal.Hand
open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- One butterfly over bit `b` of the slice number. -/
def bst (b : ℕ) (v : ℕ → FVec F S8x128 .f32) : ℕ → FVec F S8x128 .f32 := fun i =>
  if i &&& b = 0 then addf (v i) (v (i ||| b)) else subf (v (i ^^^ b)) (v i)

/-- One butterfly over bit `d` of the sublane, whose results trade places with bit `d` of the slice number. -/
def rst (d : ℕ) (a b : BitVec 32) (m : IVec S8x128 1) (v : ℕ → FVec F S8x128 .f32) : ℕ → FVec F S8x128 .f32 := fun i =>
  if i &&& d = 0 then
    addf (select m (v i) (dynamicRotate 0 a none (v (i ||| d)) rotates_S8x128_d0))
      (select m (dynamicRotate 0 b none (v i) rotates_S8x128_d0) (v (i ||| d)))
  else
    subf (select m (v (i ^^^ d)) (dynamicRotate 0 a none (v i) rotates_S8x128_d0))
      (select m (dynamicRotate 0 b none (v (i ^^^ d)) rotates_S8x128_d0) (v i))

/-- The sixteen slices of the transposed scaled block. -/
def slc (x : Vec F S128x128 .bf16) (s : Vec F S1x128 .f32) : ℕ → FVec F S8x128 .f32
  | 0 => k0_pay5 x s | 1 => k0_pay6 x s | 2 => k0_pay7 x s | 3 => k0_pay8 x s
  | 4 => k0_pay9 x s | 5 => k0_pay10 x s | 6 => k0_pay11 x s | 7 => k0_pay12 x s
  | 8 => k0_pay13 x s | 9 => k0_pay14 x s | 10 => k0_pay15 x s | 11 => k0_pay16 x s
  | 12 => k0_pay17 x s | 13 => k0_pay18 x s | 14 => k0_pay19 x s | _ => k0_pay20 x s

/-- The rotated block, slice by slice. -/
def rot (m1 m2 m4 : IVec S8x128 1) (x : Vec F S128x128 .bf16) (s : Vec F S1x128 .f32) : ℕ → FVec F S8x128 .f32 :=
  rst 4 4#32 4#32 m4 (rst 2 2#32 6#32 m2 (rst 1 1#32 7#32 m1 (bst 8 (bst 4 (bst 2 (bst 1 (slc x s)))))))

/-- The largest magnitude among the sixteen slices and the carried value. -/
def vmx (a : FVec F S8x128 .f32) (v : ℕ → FVec F S8x128 .f32) : FVec F S8x128 .f32 :=
  let m2 := fun i => maximumf (absf (v (2 * i))) (absf (v (2 * i + 1)))
  let m4 := fun i => maximumf (m2 (2 * i)) (m2 (2 * i + 1))
  let m8 := fun i => maximumf (m4 (2 * i)) (m4 (2 * i + 1))
  maximumf a (maximumf (m8 0) (m8 1))

/-- The strided rectangle that slice `i` of a block goes to. -/
def prect1 (k : Fin k0_t1_loop.trips) (r₁ : Fin 2) (r₂ : Fin 8) : Rect S14848x128 :=
  ⟨⟨k0_off3 k (BitVec.ofNat 32 (64 * r₁.val)) (BitVec.ofNat 32 r₂.val), S8x128.size, ![8, 1], k0_off3_inb k r₁ r₂⟩, spos_8_1⟩

/-- A slice as it is stored. -/
def sto (v : FVec F S8x128 .f32) : FVec F S8x128 .f32 := shapeCast S8x128 v shapeCasts_S8x128_S8x128

/-- The sixteen writes of a trip, last first. -/
def pieces1 (k : Fin k0_t1_loop.trips) (v : ℕ → FVec F S8x128 .f32) : List (View.Piece (Elt F) S14848x128 .f32) :=
  [⟨prect1 k 1 7, sto (v 15)⟩, ⟨prect1 k 1 6, sto (v 14)⟩, ⟨prect1 k 1 5, sto (v 13)⟩, ⟨prect1 k 1 4, sto (v 12)⟩,
   ⟨prect1 k 1 3, sto (v 11)⟩, ⟨prect1 k 1 2, sto (v 10)⟩, ⟨prect1 k 1 1, sto (v 9)⟩, ⟨prect1 k 1 0, sto (v 8)⟩,
   ⟨prect1 k 0 7, sto (v 7)⟩, ⟨prect1 k 0 6, sto (v 6)⟩, ⟨prect1 k 0 5, sto (v 5)⟩, ⟨prect1 k 0 4, sto (v 4)⟩,
   ⟨prect1 k 0 3, sto (v 3)⟩, ⟨prect1 k 0 2, sto (v 2)⟩, ⟨prect1 k 0 1, sto (v 1)⟩, ⟨prect1 k 0 0, sto (v 0)⟩]

/-- The input block and the row of factors that a trip loads. -/
def ld1 (arg1 : Memref sig .tc .vmem S256x7424 .bf16) (X1 : BufTy.Contents (Elt F) arg1.view.ty) (k : Fin k0_t1_loop.trips) : Vec F S128x128 .bf16 :=
  View.readAt (Elt F) arg1.view (Rect.unit (s := S256x7424) (k0_off1 k) S128x128.size (k0_off1_inb k)).toLoadRect X1
def ld2 (arg2 : Memref sig .tc .vmem S1x7424 .f32) (X2 : BufTy.Contents (Elt F) arg2.view.ty) (k : Fin k0_t1_loop.trips) : Vec F S1x128 .f32 :=
  View.readAt (Elt F) arg2.view (Rect.unit (s := S1x7424) (k0_off2 k) S1x128.size (k0_off2_inb k)).toLoadRect X2

/-- One trip of the first half's loop. -/
theorem trip1 (𝒱 : Variants) (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole) (X1 : BufTy.Contents (Elt F) arg1.view.ty) (X2 : BufTy.Contents (Elt F) arg2.view.ty) (f : BufTy.Contents (Elt F) arg5.view.ty) (k : Fin k0_t1_loop.trips) (acc : FVec F S8x128 .f32) (E : Set ℕ) :
   iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f))
   ⊢ (wp frame (wpE (defs₀ (F := F)) 𝒱 (c : Thread nD τ) none) E (k0_t1_body (F := F) i arg1 harg1 arg2 harg2 arg3 harg3 arg4 harg4 arg5 harg5 k acc)
          (fun yld => iprop(∃ f', (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f')
            ∗ ⌜yld = vmx acc (rot k0_pay404 k0_pay405 k0_pay406 (ld1 arg1 X1 k) (ld2 arg2 X2 k)) ∧ f' = arg5.view.writes (Elt F) f (pieces1 k (rot k0_pay404 k0_pay405 k0_pay406 (ld1 arg1 X1 k) (ld2 arg2 X2 k)))⌝)) : sProp 𝕄) := by
  have hk : k.val < 58 := Nat.lt_of_lt_of_le k.isLt k0_t1_abs.2.1
  unfold k0_t1_body
  iintro ⟨H1, H2, H5⟩
  sl_exec
  sl_step
  iexists _
  isplitl [H1]; · iexact H1
  isplitl [H2]; · iexact H2
  isplitl [H5]; · iexact H5
  ipureintro
  refine ⟨?_, ?_⟩
  · rfl
  · rfl

/-- The second half's rectangles and pieces. -/
def prect3 (k : Fin k0_t3_loop.trips) (r₁ : Fin 2) (r₂ : Fin 8) : Rect S14848x128 :=
  ⟨⟨k0_off8 k (BitVec.ofNat 32 (64 * r₁.val)) (BitVec.ofNat 32 r₂.val), S8x128.size, ![8, 1], k0_off8_inb k r₁ r₂⟩, spos_8_1⟩

/-- The sixteen writes of a trip of the second half, last first. -/
def pieces3 (k : Fin k0_t3_loop.trips) (v : ℕ → FVec F S8x128 .f32) : List (View.Piece (Elt F) S14848x128 .f32) :=
  [⟨prect3 k 1 7, sto (v 15)⟩, ⟨prect3 k 1 6, sto (v 14)⟩, ⟨prect3 k 1 5, sto (v 13)⟩, ⟨prect3 k 1 4, sto (v 12)⟩,
   ⟨prect3 k 1 3, sto (v 11)⟩, ⟨prect3 k 1 2, sto (v 10)⟩, ⟨prect3 k 1 1, sto (v 9)⟩, ⟨prect3 k 1 0, sto (v 8)⟩,
   ⟨prect3 k 0 7, sto (v 7)⟩, ⟨prect3 k 0 6, sto (v 6)⟩, ⟨prect3 k 0 5, sto (v 5)⟩, ⟨prect3 k 0 4, sto (v 4)⟩,
   ⟨prect3 k 0 3, sto (v 3)⟩, ⟨prect3 k 0 2, sto (v 2)⟩, ⟨prect3 k 0 1, sto (v 1)⟩, ⟨prect3 k 0 0, sto (v 0)⟩]

/-- The input block and the row of factors that a trip of the second half loads. -/
def ld3 (arg1 : Memref sig .tc .vmem S256x7424 .bf16) (X1 : BufTy.Contents (Elt F) arg1.view.ty) (k : Fin k0_t3_loop.trips) : Vec F S128x128 .bf16 :=
  View.readAt (Elt F) arg1.view (Rect.unit (s := S256x7424) (k0_off6 k) S128x128.size (k0_off6_inb k)).toLoadRect X1
def ld4 (arg2 : Memref sig .tc .vmem S1x7424 .f32) (X2 : BufTy.Contents (Elt F) arg2.view.ty) (k : Fin k0_t3_loop.trips) : Vec F S1x128 .f32 :=
  View.readAt (Elt F) arg2.view (Rect.unit (s := S1x7424) (k0_off7 k) S1x128.size (k0_off7_inb k)).toLoadRect X2

/-- One trip of the second half's loop. -/
theorem trip3 (𝒱 : Variants) (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole) (X1 : BufTy.Contents (Elt F) arg1.view.ty) (X2 : BufTy.Contents (Elt F) arg2.view.ty) (f : BufTy.Contents (Elt F) arg5.view.ty) (k : Fin k0_t3_loop.trips) (acc : FVec F S8x128 .f32) (v4 v9 v14 : IVec S8x128 1) (v80 : IVec S1x128 32) (v85 : IVec S1x128 1) (E : Set ℕ) :
   iprop((arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f))
   ⊢ (wp frame (wpE (defs₀ (F := F)) 𝒱 (c : Thread nD τ) none) E (k0_t3_body (F := F) i arg1 harg1 arg2 harg2 arg3 harg3 arg4 harg4 arg5 harg5 v4 v9 v14 v80 v85 k acc)
          (fun yld => iprop(∃ f', (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f')
            ∗ ⌜yld = vmx acc (rot v4 v9 v14 (ld3 arg1 X1 k) (ld4 arg2 X2 k)) ∧ f' = arg5.view.writes (Elt F) f (pieces3 k (rot v4 v9 v14 (ld3 arg1 X1 k) (ld4 arg2 X2 k)))⌝)) : sProp 𝕄) := by
  have hk : k.val < 58 := Nat.lt_of_lt_of_le k.isLt k0_t3_abs.2.1
  unfold k0_t3_body
  iintro ⟨H1, H2, H5⟩
  sl_exec
  sl_step
  iexists _
  isplitl [H1]; · iexact H1
  isplitl [H2]; · iexact H2
  isplitl [H5]; · iexact H5
  ipureintro
  refine ⟨?_, ?_⟩
  · rfl
  · rfl

end Cert.RotateIdeal.Hand
end
-- ==== Proof.RotRun.lean ====
module

public import proofs.«01_k».proof.Proof.RotTrip

@[expose] public section

set_option maxRecDepth 16384
set_option maxHeartbeats 4000000

/-! The kernel body run whole: what it leaves in the blocks of codes and of scales, as functions of
    the two input blocks, on any format model. -/

noncomputable section

namespace Cert.RotateIdeal.Hand
open Cert.RotateIdeal Cert.RotateIdeal.Gen
open Idealize.ShloMosaic hiding ix2 eq_ix2
open Idealize.ShloMosaic.ValueIdx (ix2 eq_ix2)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- Block `(h, g)` of the input: rows of half `h`, columns of group `g`. -/
def xb (B : Vec F S256x7424 .bf16) (h : Fin 2) (g : Fin 58) : Vec F S128x128 .bf16 := fun y =>
  B (ix2 (⟨128 * h.val + (y 0).val, by have := h.isLt; have : (y 0).val < 128 := (y 0).isLt; omega⟩ : Fin 256)
    (⟨128 * g.val + (y 1).val, by have := g.isLt; have : (y 1).val < 128 := (y 1).isLt; omega⟩ : Fin 7424))

/-- Group `g` of the row of factors. -/
def sb (S : Vec F S1x7424 .f32) (g : Fin 58) : Vec F S1x128 .f32 := fun y =>
  S (ix2 (0 : Fin 1) (⟨128 * g.val + (y 1).val, by have := g.isLt; have : (y 1).val < 128 := (y 1).isLt; omega⟩ : Fin 7424))

/-- The rotated block's slices. -/
def rb (B : Vec F S256x7424 .bf16) (S : Vec F S1x7424 .f32) (h : Fin 2) (g : Fin 58) : ℕ → FVec F S8x128 .f32 :=
  rot k0_pay404 k0_pay405 k0_pay406 (xb B h g) (sb S g)

/-- The group that trip `n` works on. -/
def gOf (n : ℕ) : Fin 58 := ⟨n % 58, Nat.mod_lt _ (by omega)⟩
/-- Below 58 the group of a trip is the trip. -/
theorem gOf_of {n : ℕ} (h : n < 58) : (gOf n).val = n := Nat.mod_eq_of_lt h

/-- The carried maximum after `n` trips over half `h`. -/
def am (B : Vec F S256x7424 .bf16) (S : Vec F S1x7424 .f32) (h : Fin 2) : ℕ → FVec F S8x128 .f32
  | 0 => k0_pay407
  | n + 1 => vmx (am B S h n) (rb B S h (gOf n))

/-- What the scratch holds after the rotation. -/
def sv (B : Vec F S256x7424 .bf16) (S : Vec F S1x7424 .f32) : Vec F S14848x128 .f32 := fun y =>
  sto (rb B S ⟨(y 0).val / 128 % 2, by omega⟩ (gOf ((y 0).val / 256)) (8 * ((y 0).val % 128 / 64) + (y 0).val % 8))
    (ix2 (⟨(y 0).val % 64 / 8, by omega⟩ : Fin 8) (y 1))

/-- The input tile that a trip of loop 1 loads. -/
theorem ld1_eq (arg1 : Memref sig .tc .vmem S256x7424 .bf16) (X1 : BufTy.Contents (Elt F) arg1.view.ty) (k : Fin k0_t1_loop.trips) (hk : k.val < 58) :
    ld1 arg1 X1 k = xb (arg1.view.read (Elt F) X1) 0 (gOf k.val) := by
  funext y
  refine congrArg (arg1.view.read (Elt F) X1) (funext fun a => Fin.ext ?_)
  show k0_off1 k a + 1 * (y a).val = _
  rw [k0_off1_eq]
  fin_cases a
  · simp [ix2]
  · simp [ix2, gOf_of hk]

/-- The signs that a trip of loop 1 loads. -/
theorem ld2_eq (arg2 : Memref sig .tc .vmem S1x7424 .f32) (X2 : BufTy.Contents (Elt F) arg2.view.ty) (k : Fin k0_t1_loop.trips) (hk : k.val < 58) :
    ld2 arg2 X2 k = sb (arg2.view.read (Elt F) X2) (gOf k.val) := by
  funext y
  refine congrArg (arg2.view.read (Elt F) X2) (funext fun a => Fin.ext ?_)
  show k0_off2 k a + 1 * (y a).val = _
  rw [k0_off2_eq]
  fin_cases a
  · have : (y 0).val < 1 := (y 0).isLt
    simp [ix2]
  · simp [ix2, gOf_of hk]

/-- The input tile that a trip of loop 3 loads. -/
theorem ld3_eq (arg1 : Memref sig .tc .vmem S256x7424 .bf16) (X1 : BufTy.Contents (Elt F) arg1.view.ty) (k : Fin k0_t3_loop.trips) (hk : k.val < 58) :
    ld3 arg1 X1 k = xb (arg1.view.read (Elt F) X1) 1 (gOf k.val) := by
  funext y
  refine congrArg (arg1.view.read (Elt F) X1) (funext fun a => Fin.ext ?_)
  show k0_off6 k a + 1 * (y a).val = _
  rw [k0_off6_eq]
  fin_cases a
  · simp [ix2]
  · simp [ix2, gOf_of hk]

/-- The signs that a trip of loop 3 loads. -/
theorem ld4_eq (arg2 : Memref sig .tc .vmem S1x7424 .f32) (X2 : BufTy.Contents (Elt F) arg2.view.ty) (k : Fin k0_t3_loop.trips) (hk : k.val < 58) :
    ld4 arg2 X2 k = sb (arg2.view.read (Elt F) X2) (gOf k.val) := by
  funext y
  refine congrArg (arg2.view.read (Elt F) X2) (funext fun a => Fin.ext ?_)
  show k0_off7 k a + 1 * (y a).val = _
  rw [k0_off7_eq]
  fin_cases a
  · have : (y 0).val < 1 := (y 0).isLt
    simp [ix2]
  · simp [ix2, gOf_of hk]

/-- The scratch at row `256 g + 128 h + 64 r₁ + r₂ + 8 s`. -/
theorem sv_at (B : Vec F S256x7424 .bf16) (S : Vec F S1x7424 .f32) (h : Fin 2) (g n : ℕ) (r₁ : Fin 2) (r₂ : Fin 8) (x : S8x128.Idx) (y : S14848x128.Idx)
    (h0 : (y 0).val = 256 * g + 128 * h.val + 64 * r₁.val + r₂.val + 8 * (x 0).val) (h1 : (y 1).val = (x 1).val) (hn : n = 8 * r₁.val + r₂.val) :
    sv B S y = sto (rb B S h (gOf g) n) x := by
  have e0 : (x 0).val < 8 := (x 0).isLt
  have e1 := h.isLt; have e2 := r₁.isLt; have e3 := r₂.isLt
  unfold sv
  subst hn
  obtain ⟨hv, hh⟩ := h
  obtain ⟨r₁, hr₁⟩ := r₁
  obtain ⟨r₂, hr₂⟩ := r₂
  simp only at h0 e1 e2 e3 ⊢
  have a1 : (⟨(y 0).val / 128 % 2, by omega⟩ : Fin 2) = ⟨hv, hh⟩ := Fin.ext (by show _ / 128 % 2 = hv; omega)
  have a2 : (y 0).val / 256 = g := by omega
  have a3 : 8 * ((y 0).val % 128 / 64) + (y 0).val % 8 = 8 * r₁ + r₂ := by omega
  rw [a1, a2, a3]
  congr 1
  funext a
  fin_cases a
  · exact Fin.ext (by show (y 0).val % 64 / 8 = (x 0).val; omega)
  · exact Fin.ext h1

/-- Where a strided store of loop 1 puts a row. -/
theorem emb1 (k : Fin k0_t1_loop.trips) (r₁ : Fin 2) (r₂ : Fin 8) (x : S8x128.Idx) :
    (((prect1 k r₁ r₂).emb x 0).val = 256 * k.val + 64 * r₁.val + r₂.val + 8 * (x 0).val) ∧ (((prect1 k r₁ r₂).emb x 1).val = (x 1).val) := by
  constructor
  · show k0_off3 k (BitVec.ofNat 32 (64 * r₁.val)) (BitVec.ofNat 32 r₂.val) 0 + 8 * (x 0).val = _
    rw [k0_off3_eq]; rfl
  · show k0_off3 k (BitVec.ofNat 32 (64 * r₁.val)) (BitVec.ofNat 32 r₂.val) 1 + 1 * (x 1).val = _
    rw [k0_off3_eq]; simp

/-- Where a strided store of loop 3 puts a row. -/
theorem emb3 (k : Fin k0_t3_loop.trips) (r₁ : Fin 2) (r₂ : Fin 8) (x : S8x128.Idx) :
    (((prect3 k r₁ r₂).emb x 0).val = 256 * k.val + 64 * r₁.val + r₂.val + 128 + 8 * (x 0).val) ∧ (((prect3 k r₁ r₂).emb x 1).val = (x 1).val) := by
  constructor
  · show k0_off8 k (BitVec.ofNat 32 (64 * r₁.val)) (BitVec.ofNat 32 r₂.val) 0 + 8 * (x 0).val = _
    rw [k0_off8_eq]; rfl
  · show k0_off8 k (BitVec.ofNat 32 (64 * r₁.val)) (BitVec.ofNat 32 r₂.val) 1 + 1 * (x 1).val = _
    rw [k0_off8_eq]; simp

/-- The sixteen stores of a trip of loop 1, one by one. -/
theorem mem_pieces1 (k : Fin k0_t1_loop.trips) (v : ℕ → FVec F S8x128 .f32) (p) :
    p ∈ pieces1 k v ↔ ∃ (r₁ : Fin 2) (r₂ : Fin 8), p = ⟨prect1 k r₁ r₂, sto (v (8 * r₁.val + r₂.val))⟩ := by
  constructor
  · intro h
    simp only [pieces1, List.mem_cons, List.not_mem_nil, or_false] at h
    rcases h with h|h|h|h|h|h|h|h|h|h|h|h|h|h|h|h
    · exact ⟨1, 7, h⟩
    · exact ⟨1, 6, h⟩
    · exact ⟨1, 5, h⟩
    · exact ⟨1, 4, h⟩
    · exact ⟨1, 3, h⟩
    · exact ⟨1, 2, h⟩
    · exact ⟨1, 1, h⟩
    · exact ⟨1, 0, h⟩
    · exact ⟨0, 7, h⟩
    · exact ⟨0, 6, h⟩
    · exact ⟨0, 5, h⟩
    · exact ⟨0, 4, h⟩
    · exact ⟨0, 3, h⟩
    · exact ⟨0, 2, h⟩
    · exact ⟨0, 1, h⟩
    · exact ⟨0, 0, h⟩
  · rintro ⟨r₁, r₂, rfl⟩
    fin_cases r₁ <;> fin_cases r₂ <;> simp [pieces1]

/-- The sixteen stores of a trip of loop 3, one by one. -/
theorem mem_pieces3 (k : Fin k0_t3_loop.trips) (v : ℕ → FVec F S8x128 .f32) (p) :
    p ∈ pieces3 k v ↔ ∃ (r₁ : Fin 2) (r₂ : Fin 8), p = ⟨prect3 k r₁ r₂, sto (v (8 * r₁.val + r₂.val))⟩ := by
  constructor
  · intro h
    simp only [pieces3, List.mem_cons, List.not_mem_nil, or_false] at h
    rcases h with h|h|h|h|h|h|h|h|h|h|h|h|h|h|h|h
    · exact ⟨1, 7, h⟩
    · exact ⟨1, 6, h⟩
    · exact ⟨1, 5, h⟩
    · exact ⟨1, 4, h⟩
    · exact ⟨1, 3, h⟩
    · exact ⟨1, 2, h⟩
    · exact ⟨1, 1, h⟩
    · exact ⟨1, 0, h⟩
    · exact ⟨0, 7, h⟩
    · exact ⟨0, 6, h⟩
    · exact ⟨0, 5, h⟩
    · exact ⟨0, 4, h⟩
    · exact ⟨0, 3, h⟩
    · exact ⟨0, 2, h⟩
    · exact ⟨0, 1, h⟩
    · exact ⟨0, 0, h⟩
  · rintro ⟨r₁, r₂, rfl⟩
    fin_cases r₁ <;> fin_cases r₂ <;> simp [pieces3]

/-- A trip of the first half extends the rows known to hold the rotated block. -/
theorem writes1 (arg5 : Memref sig .tc .vmem S14848x128 .f32) (f : BufTy.Contents (Elt F) arg5.view.ty) (k : Fin k0_t1_loop.trips) (hk : k.val < 58)
    (B : Vec F S256x7424 .bf16) (S : Vec F S1x7424 .f32)
    (hf : ∀ y : S14848x128.Idx, (y 0).val < 256 * k.val → (y 0).val % 256 < 128 → arg5.view.read (Elt F) f y = sv B S y)
    (y : S14848x128.Idx) (hy : (y 0).val < 256 * (k.val + 1)) (hy' : (y 0).val % 256 < 128) :
    arg5.view.read (Elt F) (arg5.view.writes (Elt F) f (pieces1 k (rb B S 0 (gOf k.val)))) y = sv B S y := by
  have y1 : (y 1).val < 128 := (y 1).isLt
  by_cases hc : 256 * k.val ≤ (y 0).val
  · refine View.read_writes_apply_of_pieces _ _ (sv B S) _ ?_ _ ?_
    · intro p hp x
      obtain ⟨r₁, r₂, rfl⟩ := (mem_pieces1 k _ p).1 hp
      refine (sv_at B S 0 k.val _ r₁ r₂ x _ ?_ (emb1 k r₁ r₂ x).2 rfl).symm
      rw [(emb1 k r₁ r₂ x).1]; simp
    · refine ⟨_, (mem_pieces1 k _ _).2 ⟨⟨(y 0).val % 128 / 64, by omega⟩, ⟨(y 0).val % 8, by omega⟩, rfl⟩, ?_⟩
      have : y = (prect1 k ⟨(y 0).val % 128 / 64, by omega⟩ ⟨(y 0).val % 8, by omega⟩).emb (ix2 (⟨(y 0).val % 64 / 8, by omega⟩ : Fin 8) (⟨(y 1).val, y1⟩ : Fin 128)) := by
        funext a
        fin_cases a
        · refine Fin.ext (Eq.trans ?_ (emb1 _ _ _ _).1.symm)
          show (y 0).val = 256 * k.val + 64 * ((y 0).val % 128 / 64) + (y 0).val % 8 + 8 * ((y 0).val % 64 / 8)
          omega
        · refine Fin.ext (Eq.trans ?_ (emb1 _ _ _ _).2.symm)
          rfl
      exact (congrArg (fun z => z ∈ (prect1 k ⟨(y 0).val % 128 / 64, by omega⟩ ⟨(y 0).val % 8, by omega⟩).set) this).mpr (LoadRect.idx_mem (prect1 k ⟨(y 0).val % 128 / 64, by omega⟩ ⟨(y 0).val % 8, by omega⟩).toLoadRect _)
  · rw [View.read_writes_apply_of_forall_not_mem]
    · exact hf y (by omega) hy'
    · intro p hp hm
      obtain ⟨r₁, r₂, rfl⟩ := (mem_pieces1 k _ p).1 hp
      obtain ⟨x, hx⟩ := LoadRect.exists_idx_of_mem _ hm
      have h0 := (emb1 k r₁ r₂ x).1
      have x0 : (x 0).val < 8 := (x 0).isLt
      have hx0 : (prect1 k r₁ r₂).emb x 0 = y 0 := congrFun hx 0
      rw [hx0] at h0
      have := r₁.isLt; have := r₂.isLt
      omega

/-- A trip of the second half extends the rows known to hold the rotated block. -/
theorem writes3 (arg5 : Memref sig .tc .vmem S14848x128 .f32) (f : BufTy.Contents (Elt F) arg5.view.ty) (k : Fin k0_t3_loop.trips) (hk : k.val < 58)
    (B : Vec F S256x7424 .bf16) (S : Vec F S1x7424 .f32)
    (hf : ∀ y : S14848x128.Idx, (y 0).val < 256 * k.val → 128 ≤ (y 0).val % 256 → arg5.view.read (Elt F) f y = sv B S y)
    (y : S14848x128.Idx) (hy : (y 0).val < 256 * (k.val + 1)) (hy' : 128 ≤ (y 0).val % 256) :
    arg5.view.read (Elt F) (arg5.view.writes (Elt F) f (pieces3 k (rb B S 1 (gOf k.val)))) y = sv B S y := by
  have y1 : (y 1).val < 128 := (y 1).isLt
  by_cases hc : 256 * k.val ≤ (y 0).val
  · refine View.read_writes_apply_of_pieces _ _ (sv B S) _ ?_ _ ?_
    · intro p hp x
      obtain ⟨r₁, r₂, rfl⟩ := (mem_pieces3 k _ p).1 hp
      refine (sv_at B S 1 k.val _ r₁ r₂ x _ ?_ (emb3 k r₁ r₂ x).2 rfl).symm
      rw [(emb3 k r₁ r₂ x).1]; simp; omega
    · refine ⟨_, (mem_pieces3 k _ _).2 ⟨⟨(y 0).val % 128 / 64, by omega⟩, ⟨(y 0).val % 8, by omega⟩, rfl⟩, ?_⟩
      have : y = (prect3 k ⟨(y 0).val % 128 / 64, by omega⟩ ⟨(y 0).val % 8, by omega⟩).emb (ix2 (⟨(y 0).val % 64 / 8, by omega⟩ : Fin 8) (⟨(y 1).val, y1⟩ : Fin 128)) := by
        funext a
        fin_cases a
        · refine Fin.ext (Eq.trans ?_ (emb3 _ _ _ _).1.symm)
          show (y 0).val = 256 * k.val + 64 * ((y 0).val % 128 / 64) + (y 0).val % 8 + 128 + 8 * ((y 0).val % 64 / 8)
          omega
        · refine Fin.ext (Eq.trans ?_ (emb3 _ _ _ _).2.symm)
          rfl
      exact (congrArg (fun z => z ∈ (prect3 k ⟨(y 0).val % 128 / 64, by omega⟩ ⟨(y 0).val % 8, by omega⟩).set) this).mpr (LoadRect.idx_mem (prect3 k ⟨(y 0).val % 128 / 64, by omega⟩ ⟨(y 0).val % 8, by omega⟩).toLoadRect _)
  · rw [View.read_writes_apply_of_forall_not_mem]
    · exact hf y (by omega) hy'
    · intro p hp hm
      obtain ⟨r₁, r₂, rfl⟩ := (mem_pieces3 k _ p).1 hp
      obtain ⟨x, hx⟩ := LoadRect.exists_idx_of_mem _ hm
      have h0 := (emb3 k r₁ r₂ x).1
      have x0 : (x 0).val < 8 := (x 0).isLt
      have hx0 : (prect3 k r₁ r₂).emb x 0 = y 0 := congrFun hx 0
      rw [hx0] at h0
      have := r₁.isLt; have := r₂.isLt
      omega

/-- A trip of the second half leaves the first half's rows alone. -/
theorem writes3_keep (arg5 : Memref sig .tc .vmem S14848x128 .f32) (f : BufTy.Contents (Elt F) arg5.view.ty) (k : Fin k0_t3_loop.trips) (v : ℕ → FVec F S8x128 .f32)
    (y : S14848x128.Idx) (hy' : (y 0).val % 256 < 128) :
    arg5.view.read (Elt F) (arg5.view.writes (Elt F) f (pieces3 k v)) y = arg5.view.read (Elt F) f y := by
  rw [View.read_writes_apply_of_forall_not_mem]
  intro p hp hm
  obtain ⟨r₁, r₂, rfl⟩ := (mem_pieces3 k _ p).1 hp
  obtain ⟨x, hx⟩ := LoadRect.exists_idx_of_mem _ hm
  have h0 := (emb3 k r₁ r₂ x).1
  have x0 : (x 0).val < 8 := (x 0).isLt
  have hx0 : (prect3 k r₁ r₂).emb x 0 = y 0 := congrFun hx 0
  rw [hx0] at h0
  have := r₁.isLt; have := r₂.isLt
  omega

/-! ## The quantising loops -/

/-- Block `(h, g)` of what the scratch holds. -/
def cb (W : Vec F S14848x128 .f32) (h : Fin 2) (g : Fin 58) : Vec F S128x128 .f32 := fun z =>
  W (ix2 (⟨256 * g.val + 128 * h.val + (z 0).val, by have := g.isLt; have := h.isLt; have : (z 0).val < 128 := (z 0).isLt; omega⟩ : Fin 14848) (z 1))

/-- The codes' block whose half `h` is quantised by `q h`. -/
def cv (q : Fin 2 → Vec F S128x128 .f32 → FVec F S128x128 .fp8e4m3) (W : Vec F S14848x128 .f32) : Vec F S256x7424 .fp8e4m3 := fun y =>
  have h0 : (y 0).val < 256 := (y 0).isLt
  have h1 : (y 1).val < 7424 := (y 1).isLt
  q ⟨(y 0).val / 128, by omega⟩ (cb W ⟨(y 0).val / 128, by omega⟩ (gOf ((y 1).val / 128)))
    (ix2 (⟨(y 0).val % 128, by omega⟩ : Fin 128) (⟨(y 1).val % 128, by omega⟩ : Fin 128))

/-- The codes' rectangle of half `h` in trip `g`. -/
def crect (h : Fin 2) (g : ℕ) (hg : g < 58) : Rect S256x7424 :=
  Rect.unit (s := S256x7424) ![128 * h.val, 128 * g] S128x128.size (fun a => by
    have := h.isLt
    fin_cases a
    · show 128 * h.val + 128 ≤ 256; omega
    · show 128 * g + 128 ≤ 7424; omega)

/-- A block of codes written by trip `g` of half `h` extends the columns known. -/
theorem cwrite (q : Fin 2 → Vec F S128x128 .f32 → FVec F S128x128 .fp8e4m3) (W : Vec F S14848x128 .f32) (h : Fin 2) (g : ℕ) (hg : g < 58)
    (arg3 : Memref sig .tc .vmem S256x7424 .fp8e4m3) (f : BufTy.Contents (Elt F) arg3.view.ty) (r : Rect S256x7424) (hr : r = crect h g hg)
    (w : r.shape.Idx → Elt F .fp8e4m3) (hw : HEq w (q h (cb W h (gOf g))))
    (hf : ∀ y : S256x7424.Idx, (y 0).val / 128 < h.val ∨ ((y 0).val / 128 = h.val ∧ (y 1).val < 128 * g) → arg3.view.read (Elt F) f y = cv q W y)
    (y : S256x7424.Idx) (hy : (y 0).val / 128 < h.val ∨ ((y 0).val / 128 = h.val ∧ (y 1).val < 128 * (g + 1))) :
    arg3.view.read (Elt F) (arg3.view.writes (Elt F) f [⟨r, w⟩]) y = cv q W y := by
  subst hr
  obtain rfl := eq_of_heq hw
  have hh := h.isLt
  have y0 : (y 0).val < 256 := (y 0).isLt
  have y1 : (y 1).val < 7424 := (y 1).isLt
  by_cases hc : (y 0).val / 128 = h.val ∧ 128 * g ≤ (y 1).val
  · refine (View.read_writes_cons_hit_of_coords arg3.view f _ _ [] (ix2 (⟨(y 0).val % 128, by omega⟩ : Fin 128) (⟨(y 1).val % 128, by omega⟩ : Fin 128)) y ?_).trans ?_
    · intro a
      fin_cases a
      · show (y 0).val = 128 * h.val + 1 * ((y 0).val % 128); omega
      · show (y 1).val = 128 * g + 1 * ((y 1).val % 128); omega
    · have e1 : (⟨(y 0).val / 128, by omega⟩ : Fin 2) = h := Fin.ext hc.1
      have e2 : (y 1).val / 128 = g := by omega
      unfold cv
      simp only [e1, e2]
  · have hy' : (y 0).val / 128 < h.val ∨ ((y 0).val / 128 = h.val ∧ (y 1).val < 128 * g) := by omega
    rw [View.read_writes_cons_miss, View.writes_nil]
    · exact hf y hy'
    · intro hm
      obtain ⟨x, hx⟩ := LoadRect.exists_idx_of_mem _ hm
      have x0 : (x 0).val < 128 := (x 0).isLt
      have a0 : 128 * h.val + 1 * (x 0).val = (y 0).val := congrArg Fin.val (congrFun hx 0)
      have a1 : 128 * g + 1 * (x 1).val = (y 1).val := congrArg Fin.val (congrFun hx 1)
      omega

/-- The scratch rows that the quantising trip reads. -/
theorem cload (h : Fin 2) (g : ℕ) (hg : g < 58) (arg5 : Memref sig .tc .vmem S14848x128 .f32) (f : BufTy.Contents (Elt F) arg5.view.ty) (W : Vec F S14848x128 .f32)
    (off : Fin 2 → ℕ) (inb) (ho : off = ![256 * g + 128 * h.val, 0])
    (hf : ∀ y : S14848x128.Idx, (y 0).val / 128 % 2 = h.val → arg5.view.read (Elt F) f y = W y) :
    View.readAt (Elt F) arg5.view (Rect.unit (s := S14848x128) off S128x128.size inb).toLoadRect f = cb W h (gOf g) := by
  subst ho
  have hh := h.isLt
  funext z
  have z0 : (z 0).val < 128 := (z 0).isLt
  refine (hf _ ?_).trans (congrArg W (funext fun a => Fin.ext ?_))
  · show (256 * g + 128 * h.val + 1 * (z 0).val) / 128 % 2 = h.val
    omega
  · fin_cases a
    · show 256 * g + 128 * h.val + 1 * (z 0).val = 256 * (gOf g).val + 128 * h.val + (z 0).val
      rw [gOf_of hg]; omega
    · show 0 + 1 * (z 1).val = (z 1).val
      omega

end Cert.RotateIdeal.Hand
end
-- ==== Proof.RotBody.lean ====
module

public import proofs.«01_k».proof.Proof.RotRun

@[expose] public section

set_option maxRecDepth 16384
set_option maxHeartbeats 4000000

/-! The kernel's body as a triple, from the four loops' trips. -/

noncomputable section

namespace Cert.RotateIdeal.Hand
open Cert.RotateIdeal Cert.RotateIdeal.Gen
open Idealize.ShloMosaic hiding ix2 eq_ix2 ix3
open Idealize.ShloMosaic.ValueIdx (ix2 eq_ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- The exponent words of the first half's scales. -/
def w80 (a : FVec F S8x128 .f32) : IVec S1x128 32 := k0_pay411 (k0_pay409 a) (k0_pay410 a) 32#32
/-- The first half's test for an exponent out of range. -/
def w85 (a : FVec F S8x128 .f32) : IVec S1x128 1 := k0_pay412 (k0_pay409 a) (k0_pay410 a) 32#32
/-- The exponent words of the second half's scales. -/
def w164 (a : FVec F S8x128 .f32) : IVec S1x128 32 := k0_pay422 (k0_pay418 a) k0_pay419 k0_pay420 k0_pay421

/-- How each half is quantised, from its largest magnitudes. -/
def qf (a0 a1 : FVec F S8x128 .f32) (h : Fin 2) (v : Vec F S128x128 .f32) : FVec F S128x128 .fp8e4m3 :=
  if h.val = 0 then k0_pay415 (w80 a0) (w85 a0) v else k0_pay3 (k0_pay418 a1) (w164 a1) k0_pay423 v

/-- The block of codes the body leaves. -/
def outC (B : Vec F S256x7424 .bf16) (S : Vec F S1x7424 .f32) : Vec F S256x7424 .fp8e4m3 :=
  cv (qf (am B S 0 58) (am B S 1 58)) (sv B S)

/-- The block of scales the body leaves. -/
def outS (B : Vec F S256x7424 .bf16) (S : Vec F S1x7424 .f32) : Vec F S1x2x128 .f32 := fun y =>
  if (y 1).val = 0 then k0_pay414 (w80 (am B S 0 58)) (w85 (am B S 0 58)) (ix3 (0 : Fin 1) (0 : Fin 1) (y 2))
  else k0_pay2 (k0_pay418 (am B S 1 58)) (w164 (am B S 1 58)) k0_pay423 (ix3 (0 : Fin 1) (0 : Fin 1) (y 2))

/-- A unit rectangle depends on its offset only. -/
theorem unit_eq {s : Shape} {off off' size : Fin s.rank → ℕ} (h : off = off') (i1) (i2) : Rect.unit (s := s) off size i1 = Rect.unit (s := s) off' size i2 := by
  subst h; rfl

section
variable (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole)
variable (X1 : BufTy.Contents (Elt F) arg1.view.ty) (X2 : BufTy.Contents (Elt F) arg2.view.ty) (B : Vec F S256x7424 .bf16) (S : Vec F S1x7424 .f32)

/-- After `n` trips of the first rotation loop. -/
def I1 (n : ℕ) (acc : FVec F S8x128 .f32) : sProp 𝕄 :=
  iprop(∃ f, (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f)
    ∗ ⌜acc = am B S 0 n ∧ ∀ y : S14848x128.Idx, (y 0).val < 256 * n → (y 0).val % 256 < 128 → arg5.view.read (Elt F) f y = sv B S y⌝)

/-- After `n` trips of the second rotation loop. -/
def I3 (n : ℕ) (acc : FVec F S8x128 .f32) : sProp 𝕄 :=
  iprop(∃ f, (arg1.view.loc (c : Thread nD τ) ↦[arg1.view.set]{fullShare} X1) ∗ (arg2.view.loc (c : Thread nD τ) ↦[arg2.view.set]{fullShare} X2) ∗ (arg5.view.loc (c : Thread nD τ) ↦[arg5.view.set]{fullShare} f)
    ∗ ⌜acc = am B S 1 n ∧ (∀ y : S14848x128.Idx, (y 0).val < 256 * n → 128 ≤ (y 0).val % 256 → arg5.view.read (Elt F) f y = sv B S y)
      ∧ (∀ y : S14848x128.Idx, (y 0).val % 256 < 128 → arg5.view.read (Elt F) f y = sv B S y)⌝)

/-- After `n` trips of half `h`'s quantising loop. -/
def I2 (h : Fin 2) (q : Fin 2 → Vec F S128x128 .f32 → FVec F S128x128 .fp8e4m3) (f5 : BufTy.Contents (Elt F) arg5.view.ty) (n : ℕ) : sProp 𝕄 :=
  iprop(∃ f, (arg3.view.loc (c : Thread nD τ) ↦[arg3.view.set]{fullShare} f) ∗ (arg5.view.loc (c : Thread nD τ) ↦[arg5.view.set]{fullShare} f5)
    ∗ ⌜∀ y : S256x7424.Idx, (y 0).val / 128 < h.val ∨ ((y 0).val / 128 = h.val ∧ (y 1).val < 128 * n) → arg3.view.read (Elt F) f y = cv q (sv B S) y⌝)

variable (𝒱 : Variants) (E : Set ℕ)

/-- A trip of rotation loop 1 keeps its invariant. -/
theorem step1 (hX1 : arg1.view.read (Elt F) X1 = B) (hX2 : arg2.view.read (Elt F) X2 = S) (k : Fin k0_t1_loop.trips) (acc : FVec F S8x128 .f32) :
    I1 c arg1 arg2 arg5 X1 X2 B S k.val acc ⊢ (wp frame (wpE (defs₀ (F := F)) 𝒱 (c : Thread nD τ) none) E (k0_t1_body (F := F) i arg1 harg1 arg2 harg2 arg3 harg3 arg4 harg4 arg5 harg5 k acc)
      (fun yld => I1 c arg1 arg2 arg5 X1 X2 B S (k.val + 1) yld) : sProp 𝕄) := by
  have hk : k.val < 58 := Nat.lt_of_lt_of_le k.isLt k0_t1_abs.2.1
  unfold I1
  iintro ⟨%f, H1, H2, H5, %hf⟩
  iapply (wp_wand_r _ _ _)
  isplitl [H1 H2 H5]
  · iapply (trip1 𝒱 c i arg1 harg1 arg2 harg2 arg3 harg3 arg4 harg4 arg5 harg5 X1 X2 f k acc E)
    isplitl [H1]; · iexact H1
    isplitl [H2]; · iexact H2
    iexact H5
  iintro %a ⟨%f', H1, H2, H5, %hf'⟩
  iexists f'
  isplitl [H1]; · iexact H1
  isplitl [H2]; · iexact H2
  isplitl [H5]; · iexact H5
  ipureintro
  obtain ⟨rfl, rfl⟩ := hf'
  rw [ld1_eq arg1 X1 k hk, ld2_eq arg2 X2 k hk, hX1, hX2]
  exact ⟨by rw [hf.1]; rfl, fun y hy hy' => writes1 arg5 f k hk B S hf.2 y hy hy'⟩

/-- A trip of rotation loop 3 keeps its invariant. -/
theorem step3 (hX1 : arg1.view.read (Elt F) X1 = B) (hX2 : arg2.view.read (Elt F) X2 = S) (v80 : IVec S1x128 32) (v85 : IVec S1x128 1) (k : Fin k0_t3_loop.trips) (acc : FVec F S8x128 .f32) :
    I3 c arg1 arg2 arg5 X1 X2 B S k.val acc ⊢ (wp frame (wpE (defs₀ (F := F)) 𝒱 (c : Thread nD τ) none) E (k0_t3_body (F := F) i arg1 harg1 arg2 harg2 arg3 harg3 arg4 harg4 arg5 harg5 k0_pay404 k0_pay405 k0_pay406 v80 v85 k acc)
      (fun yld => I3 c arg1 arg2 arg5 X1 X2 B S (k.val + 1) yld) : sProp 𝕄) := by
  have hk : k.val < 58 := Nat.lt_of_lt_of_le k.isLt k0_t3_abs.2.1
  unfold I3
  iintro ⟨%f, H1, H2, H5, %hf⟩
  iapply (wp_wand_r _ _ _)
  isplitl [H1 H2 H5]
  · iapply (trip3 𝒱 c i arg1 harg1 arg2 harg2 arg3 harg3 arg4 harg4 arg5 harg5 X1 X2 f k acc k0_pay404 k0_pay405 k0_pay406 v80 v85 E)
    isplitl [H1]; · iexact H1
    isplitl [H2]; · iexact H2
    iexact H5
  iintro %a ⟨%f', H1, H2, H5, %hf'⟩
  iexists f'
  isplitl [H1]; · iexact H1
  isplitl [H2]; · iexact H2
  isplitl [H5]; · iexact H5
  ipureintro
  obtain ⟨rfl, rfl⟩ := hf'
  rw [ld3_eq arg1 X1 k hk, ld4_eq arg2 X2 k hk, hX1, hX2]
  exact ⟨by rw [hf.1]; rfl, fun y hy hy' => writes3 arg5 f k hk B S hf.2.1 y hy hy',
    fun y hy' => (writes3_keep arg5 f k _ y hy').trans (hf.2.2 y hy')⟩

/-- A trip of quantising loop 2 keeps its invariant. -/
theorem step2 (v4 v9 v14 : IVec S8x128 1) (v80 : IVec S1x128 32) (v85 : IVec S1x128 1) (q : Fin 2 → Vec F S128x128 .f32 → FVec F S128x128 .fp8e4m3)
    (hq : q 0 = k0_pay415 v80 v85) (f5 : BufTy.Contents (Elt F) arg5.view.ty)
    (h5 : ∀ y : S14848x128.Idx, (y 0).val / 128 % 2 = (0 : Fin 2).val → arg5.view.read (Elt F) f5 y = sv B S y)
    (k : Fin k0_t2_loop.trips) :
    I2 c arg3 arg5 B S 0 q f5 k.val ⊢ (wp frame (wpE (defs₀ (F := F)) 𝒱 (c : Thread nD τ) none) E (k0_t2_body (F := F) i arg1 harg1 arg2 harg2 arg3 harg3 arg4 harg4 arg5 harg5 v4 v9 v14 v80 v85 k ⟨⟩)
      (fun _ => I2 c arg3 arg5 B S 0 q f5 (k.val + 1)) : sProp 𝕄) := by
  have hk : k.val < 58 := Nat.lt_of_lt_of_le k.isLt k0_t2_abs.2.1
  unfold I2 k0_t2_body
  iintro ⟨%f, H3, H5, %hf⟩
  sl_exec
  sl_step
  iexists _
  isplitl [H3]; · iexact H3
  isplitl [H5]; · iexact H5
  ipureintro
  intro y hy
  refine cwrite q (sv B S) 0 k.val hk arg3 f _ (unit_eq (k0_off5_eq k) _ _) _ (heq_of_eq ?_) hf y hy
  rw [hq]
  exact congrArg _ (cload 0 k.val hk arg5 f5 (sv B S) _ _ ((k0_off4_eq k).trans rfl) h5)

/-- A trip of quantising loop 4 keeps its invariant. -/
theorem step4 (v114 : FVec F S1x128 .f32) (v164 : IVec S1x128 32) (v165 : IVec S1x128 32) (q : Fin 2 → Vec F S128x128 .f32 → FVec F S128x128 .fp8e4m3)
    (hq : q 1 = k0_pay3 v114 v164 v165) (f5 : BufTy.Contents (Elt F) arg5.view.ty)
    (h5 : ∀ y : S14848x128.Idx, (y 0).val / 128 % 2 = (1 : Fin 2).val → arg5.view.read (Elt F) f5 y = sv B S y)
    (k : Fin k0_t4_loop.trips) :
    I2 c arg3 arg5 B S 1 q f5 k.val ⊢ (wp frame (wpE (defs₀ (F := F)) 𝒱 (c : Thread nD τ) none) E (k0_t4_body (F := F) i arg1 harg1 arg2 harg2 arg3 harg3 arg4 harg4 arg5 harg5 v114 v164 v165 k ⟨⟩)
      (fun _ => I2 c arg3 arg5 B S 1 q f5 (k.val + 1)) : sProp 𝕄) := by
  have hk : k.val < 58 := Nat.lt_of_lt_of_le k.isLt k0_t4_abs.2.1
  unfold I2 k0_t4_body
  iintro ⟨%f, H3, H5, %hf⟩
  sl_exec
  sl_step
  iexists _
  isplitl [H3]; · iexact H3
  isplitl [H5]; · iexact H5
  ipureintro
  intro y hy
  refine cwrite q (sv B S) 1 k.val hk arg3 f _ (unit_eq (k0_off10_eq k) _ _) _ (heq_of_eq ?_) hf y hy
  rw [hq]
  exact congrArg _ (cload 1 k.val hk arg5 f5 (sv B S) _ _ ((k0_off9_eq k).trans rfl) h5)

end

end Cert.RotateIdeal.Hand
end
-- ==== Proof.RotMain.lean ====
module

public import proofs.«01_k».proof.Proof.RotBody

@[expose] public section

set_option maxRecDepth 16384
set_option maxHeartbeats 4000000

/-! The kernel's run: the body's triple, the pipeline's proof data, the frame. -/

noncomputable section

namespace Cert.RotateIdeal.Hand
open Cert.RotateIdeal Cert.RotateIdeal.Gen
open Idealize.ShloMosaic hiding ix2 eq_ix2 ix3
open Idealize.ShloMosaic.ValueIdx (ix2 eq_ix2 ix3)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

abbrev 𝒱₀ : Variants := Variants.none

/-- Loop 1 makes 58 trips, one a group. -/
theorem trips1 : k0_t1_loop.trips = 58 := by decide +kernel
/-- Loop 2 makes 58 trips, one a group. -/
theorem trips2 : k0_t2_loop.trips = 58 := by decide +kernel
/-- Loop 3 makes 58 trips, one a group. -/
theorem trips3 : k0_t3_loop.trips = 58 := by decide +kernel
/-- Loop 4 makes 58 trips, one a group. -/
theorem trips4 : k0_t4_loop.trips = 58 := by decide +kernel

/-- Two stored rows read back row by row. -/
theorem rowsRead (p q : FVec F S1x1x128 .f32) (arg4 : Memref sig .tc .vmem S1x2x128 .f32) (f : BufTy.Contents (Elt F) arg4.view.ty) (y : S1x2x128.Idx) :
    arg4.view.read (Elt F) (arg4.view.writes (Elt F) f
      [⟨Rect.unit (s := S1x2x128) ![0, 1, 0] S1x1x128.size inb_S1x2x128_S1x1x128_0_1_0, q⟩,
       ⟨Rect.unit (s := S1x2x128) ![0, 0, 0] S1x1x128.size inb_S1x2x128_S1x1x128_0_0_0, p⟩]) y
      = if (y 1).val = 0 then p (ix3 (0 : Fin 1) (0 : Fin 1) (y 2)) else q (ix3 (0 : Fin 1) (0 : Fin 1) (y 2)) := by
  have y0 : (y 0).val < 1 := (y 0).isLt
  have y1 : (y 1).val < 2 := (y 1).isLt
  by_cases hy : (y 1).val = 0
  · rw [if_pos hy, View.read_writes_cons_miss]
    · refine View.read_writes_cons_hit_of_coords arg4.view f (Rect.unit (s := S1x2x128) ![0, 0, 0] S1x1x128.size inb_S1x2x128_S1x1x128_0_0_0) p [] (ix3 (0 : Fin 1) (0 : Fin 1) (⟨(y 2).val, (y 2).isLt⟩ : Fin 128)) y ?_
      intro a
      fin_cases a
      · show (y 0).val = 0 + 1 * 0; omega
      · show (y 1).val = 0 + 1 * 0; omega
      · show (y 2).val = 0 + 1 * (y 2).val; omega
    · intro hm
      obtain ⟨x, hx⟩ := LoadRect.exists_idx_of_mem _ hm
      have a1 : 1 + 1 * (x 1).val = (y 1).val := congrArg Fin.val (congrFun hx 1)
      omega
  · rw [if_neg hy]
    refine View.read_writes_cons_hit_of_coords arg4.view f (Rect.unit (s := S1x2x128) ![0, 1, 0] S1x1x128.size inb_S1x2x128_S1x1x128_0_1_0) q _ (ix3 (0 : Fin 1) (0 : Fin 1) (⟨(y 2).val, (y 2).isLt⟩ : Fin 128)) y ?_
    intro a
    fin_cases a
    · show (y 0).val = 0 + 1 * 0; omega
    · show (y 1).val = 1 + 1 * 0; omega
    · show (y 2).val = 0 + 1 * (y 2).val; omega

/-- The body on whole staging memrefs: the two inputs kept, the codes and the scales left at `outC` and `outS`. -/
theorem kernelRun (c : Dev nD) (i : grid0.Coords) (arg1 : Memref sig .tc .vmem S256x7424 .bf16) (harg1 : arg1.IsWhole) (arg2 : Memref sig .tc .vmem S1x7424 .f32) (harg2 : arg2.IsWhole) (arg3 : Memref sig .tc .vmem S256x7424 .fp8e4m3) (harg3 : arg3.IsWhole) (arg4 : Memref sig .tc .vmem S1x2x128 .f32) (harg4 : arg4.IsWhole) (arg5 : Memref sig .tc .vmem S14848x128 .f32) (harg5 : arg5.IsWhole)
    (B : Vec F S256x7424 .bf16) (S : Vec F S1x7424 .f32) (E : Set ℕ) (K : PUnit → sProp 𝕄) :
    iprop(owns (c : Thread nD τ) arg1 fullShare B ∗ owns (c : Thread nD τ) arg2 fullShare S ∗ (∃ d, owns (c : Thread nD τ) arg3 fullShare d) ∗ (∃ d, owns (c : Thread nD τ) arg4 fullShare d)
        ∗ (∃ f, arg5.view.loc (c : Thread nD τ) ↦[arg5.view.set]{fullShare} f)
        ∗ (iprop(owns (c : Thread nD τ) arg1 fullShare B ∗ owns (c : Thread nD τ) arg2 fullShare S ∗ owns (c : Thread nD τ) arg3 fullShare (outC B S) ∗ owns (c : Thread nD τ) arg4 fullShare (outS B S)
            ∗ (∃ f, arg5.view.loc (c : Thread nD τ) ↦[arg5.view.set]{fullShare} f)) -∗ K ⟨⟩))
      ⊢ wp frame (wpE (defs₀ (F := F)) 𝒱₀ c none) E (cc0_rotate_quantise i arg1 harg1 arg2 harg2 arg3 harg3 arg4 harg4 arg5 harg5) K := by
  unfold owns
  iintro ⟨⟨%X1, %hX1, H1⟩, ⟨%X2, %hX2, H2⟩, ⟨%d3, %f3, -, H3⟩, ⟨%d4, %f4, -, H4⟩, ⟨%f5, H5⟩, Hk⟩
  sl_unfold [cc0_rotate_quantise]
  sl_exec
  sl_for (I1 c arg1 arg2 arg5 X1 X2 B S) $$ [H1 H2 H5]
  case region =>
    intro k acc
    exact step1 c i arg1 harg1 arg2 harg2 arg3 harg3 arg4 harg4 arg5 harg5 X1 X2 B S 𝒱₀ E hX1 hX2 k acc
  · unfold I1
    iexists f5
    isplitl [H1]; · iexact H1
    isplitl [H2]; · iexact H2
    isplitl [H5]; · iexact H5
    ipureintro
    exact ⟨rfl, fun y hy _ => absurd hy (by omega)⟩
  unfold I1
  iintro %a ⟨%g1, H1, H2, H5, %h1⟩
  have e1 : Scf.trips k0_t1_loop.lb k0_t1_loop.ub k0_t1_loop.st = 58 := trips1
  rw [e1] at h1
  obtain ⟨rfl, h1⟩ := h1
  sl_exec
  sl_for (fun n _ => I2 c arg3 arg5 B S 0 (qf (am B S 0 58) (am B S 1 58)) g1 n) $$ [H3 H5]
  case region =>
    intro k _
    exact step2 c i arg1 harg1 arg2 harg2 arg3 harg3 arg4 harg4 arg5 harg5 B S 𝒱₀ E _ _ _ _ _ _ (by funext v; rfl) g1
      (fun y hy => h1 y (by have : (y 0).val < 14848 := (y 0).isLt; omega) (by have : (y 0).val / 128 % 2 = 0 := hy; omega)) k
  · unfold I2
    iexists f3
    isplitl [H3]; · iexact H3
    isplitl [H5]; · iexact H5
    ipureintro
    intro y hy
    exact absurd hy (by simp)
  unfold I2
  iintro %_ ⟨%g3, H3, H5, %h2⟩
  have e2 : Scf.trips k0_t2_loop.lb k0_t2_loop.ub k0_t2_loop.st = 58 := trips2
  rw [e2] at h2
  sl_exec
  sl_for (I3 c arg1 arg2 arg5 X1 X2 B S) $$ [H1 H2 H5]
  case region =>
    intro k acc
    exact step3 c i arg1 harg1 arg2 harg2 arg3 harg3 arg4 harg4 arg5 harg5 X1 X2 B S 𝒱₀ E hX1 hX2 _ _ k acc
  · unfold I3
    iexists g1
    isplitl [H1]; · iexact H1
    isplitl [H2]; · iexact H2
    isplitl [H5]; · iexact H5
    ipureintro
    exact ⟨rfl, fun y hy _ => absurd hy (by omega), fun y hy => h1 y (by have : (y 0).val < 14848 := (y 0).isLt; omega) hy⟩
  unfold I3
  iintro %a ⟨%g5, H1, H2, H5, %h3⟩
  have e3 : Scf.trips k0_t3_loop.lb k0_t3_loop.ub k0_t3_loop.st = 58 := trips3
  rw [e3] at h3
  obtain ⟨rfl, h3, h3'⟩ := h3
  have hg5 : ∀ y : S14848x128.Idx, arg5.view.read (Elt F) g5 y = sv B S y := fun y => by
    have : (y 0).val < 14848 := (y 0).isLt
    by_cases hy : (y 0).val % 256 < 128
    · exact h3' y hy
    · exact h3 y (by omega) (by omega)
  sl_exec
  sl_for (fun n _ => I2 c arg3 arg5 B S 1 (qf (am B S 0 58) (am B S 1 58)) g5 n) $$ [H3 H5]
  case region =>
    intro k _
    exact step4 c i arg1 harg1 arg2 harg2 arg3 harg3 arg4 harg4 arg5 harg5 B S 𝒱₀ E _ _ _ _ (by funext v; rfl) g5
      (fun y _ => hg5 y) k
  · unfold I2
    iexists g3
    isplitl [H3]; · iexact H3
    isplitl [H5]; · iexact H5
    ipureintro
    intro y hy
    refine h2 y (.inr ?_)
    have : (y 1).val < 7424 := (y 1).isLt
    have : (y 0).val / 128 < 1 ∨ ((y 0).val / 128 = 1 ∧ (y 1).val < 128 * 0) := hy
    exact ⟨by show (y 0).val / 128 = 0; omega, by omega⟩
  unfold I2
  iintro %_ ⟨%g6, H3, H5, %h4⟩
  have e4 : Scf.trips k0_t4_loop.lb k0_t4_loop.ub k0_t4_loop.st = 58 := trips4
  rw [e4] at h4
  sl_exec
  sl_step
  iapply Hk
  isplitl [H1]
  · iexists _; isplitr; · ipureintro; exact hX1
    iexact H1
  isplitl [H2]
  · iexists _; isplitr; · ipureintro; exact hX2
    iexact H2
  isplitl [H3]
  · iexists _; isplitr; swap; · iexact H3
    ipureintro
    funext y
    refine h4 y ?_
    have : (y 1).val < 7424 := (y 1).isLt
    have : (y 0).val < 256 := (y 0).isLt
    show (y 0).val / 128 < 1 ∨ ((y 0).val / 128 = 1 ∧ (y 1).val < 128 * 58)
    omega
  isplitl [H4]
  · iexists _; isplitr; swap; · iexact H4
    ipureintro
    funext y
    exact rowsRead _ _ arg4 _ y
  iexists _; iexact H5

variable (m : (ℓ : Loc nD τ sig) → Buf (Elt F) ℓ) (ρ : Dev nD → PrngReg)

/-- The pipeline's proof data: the inputs kept at their blocks, the outputs at `outC` and `outS` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outC (iblk m c 0 t) (iblk m c 1 t)
    | ⟨3, _⟩ => outS (iblk m c 0 t) (iblk m c 1 t)
  Φ _ := Pipeline.ΦA spec0 c
  q _ := fullShare
  owed _ := 0

/-- Each window's array holds what it held when the call starts. -/
theorem A_eq (c : Dev nD) (w : Fin cfg0.W) : (dats m 0 c).A w = V m c (Pipeline.arrRef spec0 w) := rfl
/-- The first input keeps its block. -/
theorem after0_0 (c : Dev nD) (t : Fin cfg0.N) : (dats m 0 c).after 0 t = iblk m c 0 t := by dsimp only [dats]
/-- The second input keeps its block. -/
theorem after0_1 (c : Dev nD) (t : Fin cfg0.N) : (dats m 0 c).after 1 t = iblk m c 1 t := by dsimp only [dats]
/-- The codes' block after the body. -/
theorem after0_2 (c : Dev nD) (t : Fin cfg0.N) : (dats m 0 c).after 2 t = outC (iblk m c 0 t) (iblk m c 1 t) := by dsimp only [dats]
/-- The scales' block after the body. -/
theorem after0_3 (c : Dev nD) (t : Fin cfg0.N) : (dats m 0 c).after 3 t = outS (iblk m c 0 t) (iblk m c 1 t) := by dsimp only [dats]

/-- Each input's staging buffer holds its block when the body runs. -/
theorem before0_0 (c : Dev nD) (t : Fin cfg0.N) (d) : (dats m 0 c).before 0 t d = iblk m c 0 t :=
  before0_0_of m (dats m 0 c) (A_eq m c 0) (after0_0 m c) t d
/-- The second input's staging buffer holds its block when the body runs. -/
theorem before0_1 (c : Dev nD) (t : Fin cfg0.N) (d) : (dats m 0 c).before 1 t d = iblk m c 1 t :=
  before0_1_of m (dats m 0 c) (A_eq m c 1) (after0_1 m c) t d

/-- The scratch held whole, in the two spellings. -/
theorem scr (c : Dev nD) : (iprop(∃ f, (Memref.whole cc0_scratch0 : Memref sig .tc _ _ _).view.loc (c : Thread nD τ) ↦[(Memref.whole cc0_scratch0 : Memref sig .tc _ _ _).view.set]{fullShare} f) : sProp 𝕄)
    = iprop(∃ f : Buf (Elt F) ((c : Thread nD τ).loc cc0_scratch0), ((c : Thread nD τ).loc cc0_scratch0) ↦{fullShare} f) := by
  have h : (Memref.whole cc0_scratch0 : Memref sig .tc _ _ _).view.set = Finset.univ := View.set_whole _
  rw [h]

/-- The body obligation of the pipeline. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1]
  rw [show (dats m 0 c).Φ t.succ = (dats m 0 c).Φ t.castSucc from rfl,
    show (dats m 0 c).owesAt () t.succ = (dats m 0 c).owesAt () t.castSucc from rfl, after0_0, after0_1, after0_2, after0_3]
  rw [show (dats m 0 c).Φ t.castSucc = Pipeline.ΦA spec0 c from rfl]
  unfold Pipeline.ΦA
  rw [scopedRest0_eq]
  rw [← scr c]
  iintro ⟨⟨H5, Hp⟩, Ho, ⟨%d0, H0⟩, ⟨%d1, H1⟩, ⟨%d2, H2⟩, ⟨%d3, H3⟩⟩
  iapply (kernelRun c _ _ _ _ _ _ _ _ _ _ _ (iblk m c 0 t) (iblk m c 1 t) Set.univ _)
  isplitl [H0]; · iexact H0
  isplitl [H1]; · iexact H1
  isplitl [H2]; · iexists _; iexact H2
  isplitl [H3]; · iexists _; iexact H3
  isplitl [H5]; · iexact H5
  iintro ⟨H0, H1, H2, H3, H5⟩
  isplitl [Hp H5]
  · isplitl [H5]
    · iexact H5
    · iexact Hp
  isplitl [Ho]; · iexact Ho
  isplitl [H0]; · iexact H0
  isplitl [H1]; · iexact H1
  isplitl [H2]; · iexact H2
  iexact H3

set_option backward.isDefEq.respectTransparency.types false in
/-- From any memory with zero counters the program runs to the arrays the proof data give. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.RotateIdeal.Hand
end
-- ==== Proof.Fwht.lean ====
module

public import Mathlib.Tactic.FinCases
public import Mathlib.Tactic.Ring
public import Mathlib.Algebra.BigOperators.Fin
public import Mathlib.Data.Real.Basic

@[expose] public section

set_option maxRecDepth 16384
set_option maxHeartbeats 4000000

/-! The seven butterflies over the reals: what they compute is the signed sum of the Hadamard matrix. -/

noncomputable section

namespace Cert.RotMath

/-- The sign of entry `(a, b)` of the Sylvester matrix: minus one to the number of bits set in both. -/
def sg : ℕ → ℕ → ℕ → ℤ
  | 0, _, _ => 1
  | n + 1, a, b => sg n (a / 2) (b / 2) * (if a % 2 = 1 ∧ b % 2 = 1 then -1 else 1)

/-- A butterfly over bit `b` of the slice number. -/
def bstR (b : ℕ) (f : ℕ → ℕ → ℝ) : ℕ → ℕ → ℝ := fun i s => if i &&& b = 0 then f i s + f (i ||| b) s else f (i ^^^ b) s - f i s

/-- A butterfly over bit `d` of the sublane, results trading places with bit `d` of the slice number. -/
def rstR (d : ℕ) (f : ℕ → ℕ → ℝ) : ℕ → ℕ → ℝ := fun i s =>
  if i &&& d = 0 then (if s &&& d = 0 then f i s else f (i ||| d) ((s + 8 - d) % 8)) + (if s &&& d = 0 then f i ((s + d) % 8) else f (i ||| d) s)
  else (if s &&& d = 0 then f (i ^^^ d) s else f i ((s + 8 - d) % 8)) - (if s &&& d = 0 then f (i ^^^ d) ((s + d) % 8) else f i s)

/-- The four butterfly stages over the slices are one signed sum of sixteen. -/
theorem bst_sum (f : ℕ → ℕ → ℝ) (i : Fin 16) (s : ℕ) :
    bstR 8 (bstR 4 (bstR 2 (bstR 1 f))) i.val s = ∑ j : Fin 16, (sg 4 i.val j.val : ℝ) * f j.val s := by
  fin_cases i <;> simp [bstR, sg, Fin.sum_univ_succ] <;> ring

/-- The three butterfly stages inside a slice are one signed sum of eight. -/
theorem rst_sum (f : ℕ → ℕ → ℝ) (i : Fin 16) (s : Fin 8) :
    rstR 4 (rstR 2 (rstR 1 f)) i.val s.val = ∑ t : Fin 8, (sg 3 (i.val % 8) t.val : ℝ) * f (8 * (i.val / 8) + s.val) t.val := by
  fin_cases i <;> fin_cases s <;> simp [rstR, sg, Fin.sum_univ_succ] <;> ring

end Cert.RotMath
end
-- ==== Proof.FwhtSum.lean ====
module

public import proofs.«01_k».proof.Proof.Fwht
public import Mathlib.Logic.Equiv.Fin.Basic
public import Mathlib.Data.Fintype.BigOperators
public import Mathlib.Algebra.Order.BigOperators.Group.Finset
public import Mathlib.Algebra.Order.BigOperators.Ring.Finset

@[expose] public section

set_option maxRecDepth 16384
set_option maxHeartbeats 4000000

/-! The seven butterflies together: one row of the Hadamard matrix times the vector. -/

noncomputable section

namespace Cert.RotMath

/-- The sign of two indices is the product of the signs of their parts. -/
theorem sg_mul (a : Fin 16) (b : Fin 8) (j : Fin 16) (t : Fin 8) :
    sg 7 (8 * a.val + b.val) (8 * j.val + t.val) = sg 4 a.val j.val * sg 3 b.val t.val := by
  revert a b j t; decide +kernel

/-- The sign is symmetric. -/
theorem sg_comm (n : ℕ) : ∀ a b : ℕ, sg n a b = sg n b a := by
  induction n with
  | zero => intro a b; rfl
  | succ n ih => intro a b; simp only [sg]; rw [ih]; by_cases h1 : a % 2 = 1 <;> by_cases h2 : b % 2 = 1 <;> simp [h1, h2]

/-- The sign is one or minus one. -/
theorem sg_abs (n : ℕ) : ∀ a b : ℕ, |((sg n a b : ℤ) : ℝ)| = 1 := by
  induction n with
  | zero => intro a b; simp [sg]
  | succ n ih =>
    intro a b
    simp only [sg]
    push_cast
    rw [abs_mul, ih]
    split <;> simp

/-- Row `j` of the signed sum over one group of 128. -/
def had (X : ℕ → ℝ) (j : ℕ) : ℝ := ∑ k : Fin 128, (sg 7 j k.val : ℝ) * X k.val

/-- The seven butterflies over the slices of `X`: slice `i`, sublane `s` is row `8 (8 (i / 8) + s) + i % 8`. -/
theorem rot_sum (X : ℕ → ℝ) (i : Fin 16) (s : Fin 8) :
    rstR 4 (rstR 2 (rstR 1 (bstR 8 (bstR 4 (bstR 2 (bstR 1 (fun i s => X (8 * min i 15 + s)))))))) i.val s.val
      = had X (8 * (8 * (i.val / 8) + s.val) + i.val % 8) := by
  rw [rst_sum]
  have hi := i.isLt; have hs := s.isLt
  have h1 : 8 * (i.val / 8) + s.val < 16 := by omega
  have h2 : i.val % 8 < 8 := by omega
  have e : ∀ t : Fin 8, bstR 8 (bstR 4 (bstR 2 (bstR 1 (fun i s => X (8 * min i 15 + s))))) (8 * (i.val / 8) + s.val) t.val
      = ∑ j : Fin 16, (sg 4 (8 * (i.val / 8) + s.val) j.val : ℝ) * X (8 * j.val + t.val) := fun t => by
    have := bst_sum (fun i s => X (8 * min i 15 + s)) ⟨8 * (i.val / 8) + s.val, h1⟩ t.val
    rw [this]
    refine Finset.sum_congr rfl fun j _ => ?_
    have : min j.val 15 = j.val := by have := j.isLt; omega
    rw [this]
  simp only [e]
  unfold had
  rw [← (finProdFinEquiv (m := 16) (n := 8)).sum_comp (g := fun k : Fin 128 => (sg 7 (8 * (8 * (i.val / 8) + s.val) + i.val % 8) k.val : ℝ) * X k.val),
    Fintype.sum_prod_type, Finset.sum_comm]
  refine Finset.sum_congr rfl fun t _ => ?_
  rw [Finset.mul_sum]
  refine Finset.sum_congr rfl fun j _ => ?_
  have e1 : (finProdFinEquiv (m := 16) (n := 8) (j, t)).val = 8 * j.val + t.val := by
    simp [finProdFinEquiv]; omega
  rw [e1]
  have e2 := sg_mul ⟨8 * (i.val / 8) + s.val, h1⟩ ⟨i.val % 8, h2⟩ j t
  simp only at e2
  rw [e2]
  push_cast
  ring

/-- A signed sum of 128 bounded terms is bounded. -/
theorem had_abs_le (X : ℕ → ℝ) (j : ℕ) (b : ℝ) (h : ∀ k : Fin 128, |X k.val| ≤ b) : |had X j| ≤ 128 * b := by
  unfold had
  refine (Finset.abs_sum_le_sum_abs _ _).trans ?_
  refine (Finset.sum_le_sum (g := fun _ => b) fun k _ => ?_).trans ?_
  · rw [abs_mul, sg_abs, one_mul]; exact h k
  · simp

end Cert.RotMath
end
-- ==== Proof.RotLift.lean ====
module

public import proofs.«01_k».proof.Proof.RotRun
public import proofs.«01_k».proof.Proof.FwhtSum
public import Idealize.ShloMosaic.Lib.Pointwise
public import Idealize.ShloMosaic.Lib.ValueLayout
public import Idealize.ShloMosaic.Lib.KernelVsHost

@[expose] public section

set_option maxRecDepth 16384
set_option maxHeartbeats 4000000

/-! The rotated block over the extended reals, where the inputs are finite: lane by lane the signed sums. -/

noncomputable section

namespace Cert.RotateIdeal.Hand
open Cert.RotateIdeal Cert.RotateIdeal.Gen Cert.RotMath
open Idealize.ShloMosaic hiding ix2 eq_ix2 ix3
open Idealize.ShloMosaic.ValueIdx

/-- Lane `c` of the slices `v` holds the real numbers `f`. -/
def Lane (c : Fin 128) (v : ℕ → FVec Ideal S8x128 .f32) (f : ℕ → ℕ → ℝ) : Prop := ∀ (i : ℕ) (s : Fin 8), v i (ix2 s c) = ((f i s.val : ℝ) : EReal)

/-- A butterfly over slices, lane by lane. -/
theorem bst_lane (b : ℕ) (c : Fin 128) (v : ℕ → FVec Ideal S8x128 .f32) (f : ℕ → ℕ → ℝ) (h : Lane c v f) : Lane c (bst b v) (bstR b f) := by
  intro i s
  unfold bst bstR
  by_cases hb : i &&& b = 0
  · rw [if_pos hb, if_pos hb, ValueIdx.addf_apply, h, h, ← EReal.coe_add]
  · rw [if_neg hb, if_neg hb, ValueIdx.subf_apply, h, h, ← EReal.coe_sub]

/-- A rotation along the sublanes, read. -/
theorem rot_at (a : BitVec 32) (v : FVec Ideal S8x128 .f32) (h : S8x128.Rotates 0 none) (s : Fin 8) (c : Fin 128) (k : Fin 8)
    (hk : k.val = (s.val + 8 - a.toNat % 8) % 8) : dynamicRotate 0 a none v h (ix2 s c) = v (ix2 k c) := by
  refine Idealize.ShloMosaic.dynamicRotate_apply 0 a v h _ _ fun b => ?_
  fin_cases b
  · exact hk
  · rfl

/-- A butterfly inside the slices, lane by lane. -/
theorem rst_lane (d : ℕ) (hd : d = 1 ∨ d = 2 ∨ d = 4) (a b : BitVec 32) (ha : a.toNat = d) (hb : b.toNat = 8 - d) (m : IVec S8x128 1)
    (hm : ∀ (s : Fin 8) (c : Fin 128), m (ix2 s c) = if s.val &&& d = 0 then 1#1 else 0#1)
    (c : Fin 128) (v : ℕ → FVec Ideal S8x128 .f32) (f : ℕ → ℕ → ℝ) (h : Lane c v f) : Lane c (rst d a b m v) (rstR d f) := by
  have hlo : ∀ (x y : FVec Ideal S8x128 .f32) (s : Fin 8), select m x (dynamicRotate 0 a none y rotates_S8x128_d0) (ix2 s c)
      = if s.val &&& d = 0 then x (ix2 s c) else y (ix2 (⟨(s.val + 8 - d) % 8, by omega⟩ : Fin 8) c) := fun x y s => by
    show Scalar.select (m (ix2 s c)) (x (ix2 s c)) _ = _
    rw [hm, rot_at a y _ s c (⟨(s.val + 8 - d) % 8, by omega⟩ : Fin 8) (by rw [ha]; show (s.val + 8 - d) % 8 = _; rcases hd with rfl | rfl | rfl <;> rfl)]
    split <;> rfl
  have hhi : ∀ (x y : FVec Ideal S8x128 .f32) (s : Fin 8), select m (dynamicRotate 0 b none x rotates_S8x128_d0) y (ix2 s c)
      = if s.val &&& d = 0 then x (ix2 (⟨(s.val + d) % 8, by omega⟩ : Fin 8) c) else y (ix2 s c) := fun x y s => by
    show Scalar.select (m (ix2 s c)) _ (y (ix2 s c)) = _
    rw [hm, rot_at b x _ s c (⟨(s.val + d) % 8, by omega⟩ : Fin 8) (by rw [hb]; show (s.val + d) % 8 = _; rcases hd with rfl | rfl | rfl <;> omega)]
    split <;> rfl
  intro i s
  unfold rst rstR
  by_cases hi : i &&& d = 0
  · rw [if_pos hi, if_pos hi, ValueIdx.addf_apply, hlo, hhi]
    by_cases hs : s.val &&& d = 0
    · simp only [if_pos hs]; rw [h, h, ← EReal.coe_add]
    · simp only [if_neg hs]; rw [h, h, ← EReal.coe_add]
  · rw [if_neg hi, if_neg hi, ValueIdx.subf_apply, hlo, hhi]
    by_cases hs : s.val &&& d = 0
    · simp only [if_pos hs]; rw [h, h, ← EReal.coe_sub]
    · simp only [if_neg hs]; rw [h, h, ← EReal.coe_sub]

/-- The first mask. -/
theorem mask1 (s : Fin 8) (c : Fin 128) : k0_pay404 (ix2 s c) = if s.val &&& 1 = 0 then 1#1 else 0#1 := by
  show IntOp.cmpi .eq (BitVec.ofNat 32 (0 * 8 + s.val) &&& 1#32) 0#32 = _
  revert s; decide +kernel
/-- The second mask. -/
theorem mask2 (s : Fin 8) (c : Fin 128) : k0_pay405 (ix2 s c) = if s.val &&& 2 = 0 then 1#1 else 0#1 := by
  show IntOp.cmpi .eq (BitVec.ofNat 32 (0 * 8 + s.val) &&& 2#32) 0#32 = _
  revert s; decide +kernel
/-- The third mask. -/
theorem mask4 (s : Fin 8) (c : Fin 128) : k0_pay406 (ix2 s c) = if s.val &&& 4 = 0 then 1#1 else 0#1 := by
  show IntOp.cmpi .eq (BitVec.ofNat 32 (0 * 8 + s.val) &&& 4#32) 0#32 = _
  revert s; decide +kernel

/-- The transposed scaled block, read. -/
theorem pay4_at (x : Vec Ideal S128x128 .bf16) (s : Vec Ideal S1x128 .f32) (k c : Fin 128) :
    k0_pay4 x s (ix2 k c) = (x (ix2 c k) * s (ix2 (0 : Fin 1) k) : EReal) := by
  unfold k0_pay4
  dsimp only
  rw [transpose_ix2_apply, ValueIdx.mulf_apply, ValueIdx.extf_apply, shapeCast_self, broadcastTo_1b_ab_apply, shapeCast_self]

/-- A slice read at an index. -/
theorem slc_at (o : ℕ) (v : FVec Ideal S128x128 .f32) (h : S128x128.Slices ![o, 0] S8x128) (s : Fin 8) (c k : Fin 128) (hk : k.val = o + s.val) :
    extractStridedSlice S8x128 ![o, 0] v h (ix2 s c) = v (ix2 k c) := by
  refine extractStridedSlice_apply _ v h _ _ fun a => ?_
  fin_cases a
  · exact hk
  · exact (Nat.zero_add _).symm

/-- The slices of the signed, transposed tile, lane by lane. -/
theorem slc_lane (x : Vec Ideal S128x128 .bf16) (s : Vec Ideal S1x128 .f32) (c : Fin 128) (X : ℕ → ℝ)
    (hX : ∀ k : Fin 128, (x (ix2 c k) * s (ix2 (0 : Fin 1) k) : EReal) = ((X k.val : ℝ) : EReal)) :
    Lane c (slc x s) (fun i s => X (8 * min i 15 + s)) := by
  have key : ∀ (o : ℕ) (h : S128x128.Slices ![o, 0] S8x128) (t : Fin 8), o + 8 ≤ 128 →
      extractStridedSlice S8x128 ![o, 0] (k0_pay4 x s) h (ix2 t c) = ((X (o + t.val) : ℝ) : EReal) := fun o h t ho => by
    rw [slc_at o _ h t c ⟨o + t.val, by omega⟩ rfl, pay4_at, hX]
  intro i t
  match i with
  | 0 => exact key 0 slices_S128x128_o0_0_S8x128 t (by omega)
  | 1 => exact key 8 slices_S128x128_o8_0_S8x128 t (by omega)
  | 2 => exact key 16 slices_S128x128_o16_0_S8x128 t (by omega)
  | 3 => exact key 24 slices_S128x128_o24_0_S8x128 t (by omega)
  | 4 => exact key 32 slices_S128x128_o32_0_S8x128 t (by omega)
  | 5 => exact key 40 slices_S128x128_o40_0_S8x128 t (by omega)
  | 6 => exact key 48 slices_S128x128_o48_0_S8x128 t (by omega)
  | 7 => exact key 56 slices_S128x128_o56_0_S8x128 t (by omega)
  | 8 => exact key 64 slices_S128x128_o64_0_S8x128 t (by omega)
  | 9 => exact key 72 slices_S128x128_o72_0_S8x128 t (by omega)
  | 10 => exact key 80 slices_S128x128_o80_0_S8x128 t (by omega)
  | 11 => exact key 88 slices_S128x128_o88_0_S8x128 t (by omega)
  | 12 => exact key 96 slices_S128x128_o96_0_S8x128 t (by omega)
  | 13 => exact key 104 slices_S128x128_o104_0_S8x128 t (by omega)
  | 14 => exact key 112 slices_S128x128_o112_0_S8x128 t (by omega)
  | n + 15 =>
    have e : min (n + 15) 15 = 15 := by omega
    show _ = ((X (8 * min (n + 15) 15 + t.val) : ℝ) : EReal)
    rw [e]
    have : slc x s (n + 15) = k0_pay20 x s := by
      cases n <;> rfl
    rw [this]
    exact key 120 slices_S128x128_o120_0_S8x128 t (by omega)

/-- The rotated block's slices: slice `i`, sublane `t`, lane `c` is one row of the signed sums of row `c` of the block. -/
theorem rot_at_lane (x : Vec Ideal S128x128 .bf16) (s : Vec Ideal S1x128 .f32) (c : Fin 128) (X : ℕ → ℝ)
    (hX : ∀ k : Fin 128, (x (ix2 c k) * s (ix2 (0 : Fin 1) k) : EReal) = ((X k.val : ℝ) : EReal)) (i : ℕ) (hi : i < 16) (t : Fin 8) :
    rot k0_pay404 k0_pay405 k0_pay406 x s i (ix2 t c) = ((had X (8 * (8 * (i / 8) + t.val) + i % 8) : ℝ) : EReal) := by
  have := rst_lane 4 (by simp) 4#32 4#32 rfl rfl _ mask4 c _ _ (rst_lane 2 (by simp) 2#32 6#32 rfl rfl _ mask2 c _ _ (rst_lane 1 (by simp) 1#32 7#32 rfl rfl _ mask1 c _ _
    (bst_lane 8 c _ _ (bst_lane 4 c _ _ (bst_lane 2 c _ _ (bst_lane 1 c _ _ (slc_lane x s c X hX))))))) i t
  unfold rot
  rw [this]
  exact congrArg _ (rot_sum X ⟨i, hi⟩ t)

end Cert.RotateIdeal.Hand
end
-- ==== Proof.RotScale.lean ====
module

public import Idealize.ShloMosaic.Lib.Pipeline.ValueKit
public import Idealize.ShloMosaic.Lib.Pointwise
public import Idealize.ShloMosaic.Lib.ValueLayout
public import Idealize.ShloMosaic.Lib.Tactic
public import Mathlib.Tactic.Linarith
public import Mathlib.Tactic.FinCases

@[expose] public section

set_option maxRecDepth 16384
set_option maxHeartbeats 4000000

/-! The exponent ladder: eight comparisons find the biased exponent of a real number, and the two words made from it
    are a power of two above the number and its inverse. -/

noncomputable section

open Idealize.ShloMosaic

namespace Cert.RotMath

/-- The pattern with exponent field `k` and nothing else is a power of two. -/
theorem ofBits_pow (k : ℕ) (h1 : 1 ≤ k) (h2 : k ≤ 254) :
    Ideal.ofBits .f32 (BitVec.ofNat 32 k <<< 23) = (((2 : ℝ) ^ ((k : ℤ) - 127) : ℝ) : EReal) := by
  have a : (BitVec.ofNat 32 k <<< 23).extractLsb' 23 8 = BitVec.ofNat 8 k := by
    have : ∀ k : Fin 256, (BitVec.ofNat 32 k.val <<< 23).extractLsb' 23 8 = BitVec.ofNat 8 k.val := by decide +kernel
    exact this ⟨k, by omega⟩
  have b : (BitVec.ofNat 32 k <<< 23).extractLsb' 0 23 = 0#23 := by
    have : ∀ k : Fin 256, (BitVec.ofNat 32 k.val <<< 23).extractLsb' 0 23 = 0#23 := by decide +kernel
    exact this ⟨k, by omega⟩
  have c : (BitVec.ofNat 32 k <<< 23).extractLsb' 31 1 = 0#1 := by
    have : ∀ k : Fin 256, (BitVec.ofNat 32 k.val <<< 23).extractLsb' 31 1 = 0#1 := by decide +kernel
    exact this ⟨k, by omega⟩
  show Ideal.ieee 8 23 (BitVec.ofNat 32 k <<< 23) = _
  unfold Ideal.ieee
  simp only [Nat.reduceAdd]
  rw [a, b, c]
  have d : (BitVec.ofNat 8 k).toNat = k := by rw [BitVec.toNat_ofNat]; exact Nat.mod_eq_of_lt (by omega)
  rw [d]
  rw [if_neg (by omega), if_neg (by omega)]
  congr 1
  simp only [show ((0#1 : BitVec 1) == 1#1) = false from rfl, BitVec.toNat_ofNat]
  rw [show ((k : ℤ) - (2 ^ (8 - 1) - 1) - ((23 : ℕ) : ℤ)) = ((k : ℤ) - 127) - 23 by norm_num]
  rw [zpow_sub₀ (by norm_num : (2 : ℝ) ≠ 0)]
  norm_num
  ring

/-- One rung: bit `b` is taken if the pattern with it is at most `t`. -/
def stp (t : EReal) (b w : BitVec 32) : BitVec 32 :=
  if Ideal.cmp .oge t (Ideal.ofBits .f32 (IntOp.shli .vector (w ||| b) 23#32)) = 1#1 then w ||| b else w

/-- The eight rungs. -/
def lad (t : EReal) : BitVec 32 :=
  stp t 1#32 (stp t 2#32 (stp t 4#32 (stp t 8#32 (stp t 16#32 (stp t 32#32 (stp t 64#32 (stp t 128#32 0#32)))))))

/-- What a rung keeps: `n` is zero or its power is at most `t`, and the power of `n + 2 m` is above `t`. -/
def Inv (t : ℝ) (m n : ℕ) (w : BitVec 32) : Prop :=
  w = BitVec.ofNat 32 n ∧ n % m = 0 ∧ n < 236 ∧ (n = 0 ∨ (2 : ℝ) ^ ((n : ℤ) - 127) ≤ t) ∧ t < (2 : ℝ) ^ (((n + m : ℕ) : ℤ) - 127)

/-- One rung of the ladder keeps what is known of the exponent. -/
theorem stp_inv (t : ℝ) (ht : t < (2 : ℝ) ^ (108 : ℤ)) (m : ℕ) (hm : m ∈ [128, 64, 32, 16, 8, 4, 2, 1]) (w : BitVec 32)
    (h : ∃ n, Inv t (2 * m) n w) : ∃ n, Inv t m n (stp t (BitVec.ofNat 32 m) w) := by
  obtain ⟨n, rfl, h1, h2, h3, h4⟩ := h
  have hor : BitVec.ofNat 32 n ||| BitVec.ofNat 32 m = BitVec.ofNat 32 (n + m) := by
    have : ∀ k : Fin 236, ∀ m ∈ [128, 64, 32, 16, 8, 4, 2, 1], k.val % (2 * m) = 0 → BitVec.ofNat 32 k.val ||| BitVec.ofNat 32 m = BitVec.ofNat 32 (k.val + m) := by
      decide +kernel
    exact this ⟨n, h2⟩ m hm h1
  have hm1 : 1 ≤ m ∧ m ≤ 128 ∧ n + m ≤ 254 ∧ (n + m) % m = 0 := by
    have : ∀ k : Fin 236, ∀ m ∈ [128, 64, 32, 16, 8, 4, 2, 1], k.val % (2 * m) = 0 → 1 ≤ m ∧ m ≤ 128 ∧ k.val + m ≤ 254 ∧ (k.val + m) % m = 0 := by
      decide +kernel
    exact this ⟨n, h2⟩ m hm h1
  obtain ⟨hm1, hm2, hm3, hm4⟩ := hm1
  have hs : Ideal.ofBits .f32 (IntOp.shli .vector (BitVec.ofNat 32 (n + m)) 23#32) = (((2 : ℝ) ^ (((n + m : ℕ) : ℤ) - 127) : ℝ) : EReal) :=
    ofBits_pow (n + m) (by omega) hm3
  unfold stp
  rw [hor, hs]
  by_cases hc : (2 : ℝ) ^ (((n + m : ℕ) : ℤ) - 127) ≤ t
  · rw [if_pos]
    · refine ⟨n + m, rfl, hm4, ?_, .inr hc, ?_⟩
      · by_contra hb
        have : (2 : ℝ) ^ (108 : ℤ) ≤ (2 : ℝ) ^ (((n + m : ℕ) : ℤ) - 127) := zpow_le_zpow_right₀ (by norm_num) (by omega)
        linarith
      · rw [show n + m + m = n + 2 * m by ring]; exact h4
    · show BitVec.ofBool (decide _) = 1#1
      rw [decide_eq_true (EReal.coe_le_coe_iff.mpr hc)]; rfl
  · rw [if_neg]
    · refine ⟨n, rfl, ?_, h2, h3, not_le.mp hc⟩
      exact Nat.mod_eq_zero_of_dvd ((Nat.dvd_mul_left m 2).trans (Nat.dvd_of_mod_eq_zero h1))
    · show ¬ BitVec.ofBool (decide _) = 1#1
      rw [decide_eq_false (fun h => hc (EReal.coe_le_coe_iff.mp h))]; decide

/-- The ladder finds the exponent field. -/
theorem lad_spec (t : ℝ) (ht : t < (2 : ℝ) ^ (108 : ℤ)) : ∃ n : ℕ, lad t = BitVec.ofNat 32 n ∧ n < 236
    ∧ (n = 0 ∨ (2 : ℝ) ^ ((n : ℤ) - 127) ≤ t) ∧ t < (2 : ℝ) ^ ((n : ℤ) - 126) := by
  have h0 : ∃ n, Inv t (2 * 128) n 0#32 := ⟨0, rfl, rfl, by norm_num, .inl rfl, ht.trans_le (zpow_le_zpow_right₀ (by norm_num) (by norm_num))⟩
  obtain ⟨n, h, _, h2, h3, h4⟩ := stp_inv t ht 1 (by simp) _ (stp_inv t ht 2 (by simp) _ (stp_inv t ht 4 (by simp) _ (stp_inv t ht 8 (by simp) _
    (stp_inv t ht 16 (by simp) _ (stp_inv t ht 32 (by simp) _ (stp_inv t ht 64 (by simp) _ (stp_inv t ht 128 (by simp) _ h0)))))))
  refine ⟨n, h, h2, h3, ?_⟩
  rw [show ((n : ℤ) - 126) = ((n + 1 : ℕ) : ℤ) - 127 by push_cast; ring]
  exact h4

/-- The exponent word made from the ladder's. -/
def expw (w : BitVec 32) : BitVec 32 :=
  if (IntOp.cmpi .eq w 0#32 ||| IntOp.cmpi .eq w 255#32) = 1#1 then 0#32 else w - 126#32

/-- The scale and its inverse, from the number. -/
def scl (t : EReal) : EReal := Ideal.ofBits .f32 (IntOp.shli .vector (expw (lad t) + 127#32) 23#32)
def inv (t : EReal) : EReal := Ideal.ofBits .f32 (IntOp.shli .vector (127#32 - expw (lad t)) 23#32)

/-- The exponent of the scale: 0 below the smallest normal number, else the power of two next above. -/
def IsExp (t : ℝ) (e : ℤ) : Prop :=
  (t < (2 : ℝ) ^ (-126 : ℤ) ∧ e = 0) ∨ ((2 : ℝ) ^ (-126 : ℤ) ≤ t ∧ -125 ≤ e ∧ e ≤ 109 ∧ (2 : ℝ) ^ (e - 1) ≤ t ∧ t < (2 : ℝ) ^ e)

/-- The scale and its inverse are the powers of two of one exponent, which fits. -/
theorem scl_spec (t : ℝ) (ht : t < (2 : ℝ) ^ (108 : ℤ)) : ∃ e : ℤ, IsExp t e ∧ scl t = (((2 : ℝ) ^ e : ℝ) : EReal) ∧ inv t = (((2 : ℝ) ^ (-e) : ℝ) : EReal) := by
  obtain ⟨n, h1, h2, h3, h4⟩ := lad_spec t ht
  unfold scl inv
  rw [h1]
  by_cases h0 : n = 0
  · subst h0
    refine ⟨0, .inl ⟨by simpa using h4, rfl⟩, ?_, ?_⟩
    · rw [show IntOp.shli .vector (expw (BitVec.ofNat 32 0) + 127#32) 23#32 = BitVec.ofNat 32 127 <<< 23 by decide +kernel,
        ofBits_pow 127 (by omega) (by omega)]
      norm_num
    · rw [show IntOp.shli .vector (127#32 - expw (BitVec.ofNat 32 0)) 23#32 = BitVec.ofNat 32 127 <<< 23 by decide +kernel,
        ofBits_pow 127 (by omega) (by omega)]
      norm_num
  · have h3' : (2 : ℝ) ^ ((n : ℤ) - 127) ≤ t := h3.resolve_left h0
    have e1 : IntOp.shli .vector (expw (BitVec.ofNat 32 n) + 127#32) 23#32 = BitVec.ofNat 32 (n + 1) <<< 23
        ∧ IntOp.shli .vector (127#32 - expw (BitVec.ofNat 32 n)) 23#32 = BitVec.ofNat 32 (253 - n) <<< 23 := by
      have : ∀ k : Fin 236, k.val ≠ 0 → IntOp.shli .vector (expw (BitVec.ofNat 32 k.val) + 127#32) 23#32 = BitVec.ofNat 32 (k.val + 1) <<< 23
        ∧ IntOp.shli .vector (127#32 - expw (BitVec.ofNat 32 k.val)) 23#32 = BitVec.ofNat 32 (253 - k.val) <<< 23 := by decide +kernel
      exact this ⟨n, h2⟩ h0
    refine ⟨(n : ℤ) - 126, .inr ⟨?_, by omega, by omega, ?_, h4⟩, ?_, ?_⟩
    · exact le_trans (zpow_le_zpow_right₀ (by norm_num) (by omega)) h3'
    · rw [show (n : ℤ) - 126 - 1 = (n : ℤ) - 127 by ring]; exact h3'
    · rw [e1.1, ofBits_pow _ (by omega) (by omega)]
      congr 2; push_cast; ring
    · rw [e1.2, ofBits_pow _ (by omega) (by omega)]
      congr 2; push_cast [Nat.cast_sub (show n ≤ 253 by omega)]; ring

end Cert.RotMath
end
-- ==== Proof.RotSpec.lean ====
module

public import proofs.«01_k».proof.Proof.RotScale
public import proofs.«01_k».proof.Proof.FwhtSum
public import Mathlib.Order.Bounds.Basic
public import Mathlib.Order.ConditionallyCompleteLattice.Basic

@[expose] public section

set_option maxRecDepth 16384
set_option maxHeartbeats 4000000

/-! What one row becomes: its signed sums group by group, the power of two that scales them, and the clipped codes. -/

noncomputable section

open Idealize.ShloMosaic

namespace Cert.RotMath

/-- The normalising factor, one over the square root of 128 rounded to a float. -/
def cN : ℝ := 11863283 * (2 : ℝ) ^ (-27 : ℤ)
/-- One over 448 rounded to a float. -/
def cU : ℝ := 9586981 * (2 : ℝ) ^ (-32 : ℤ)

/-- The word of the normalising factor. -/
theorem ofBits_cN : Ideal.ofBits .f32 0x3DB504F3#32 = ((cN : ℝ) : EReal) := by
  unfold cN; simp [Ideal.ofBits, Ideal.ieee, -EReal.coe_mul]; try norm_num
/-- The word of one over 448. -/
theorem ofBits_cU : Ideal.ofBits .f32 0x3B124925#32 = ((cU : ℝ) : EReal) := by
  unfold cU; simp [Ideal.ofBits, Ideal.ieee, -EReal.coe_mul]; try norm_num

/-- The normalising factor is positive. -/
theorem cN_pos : 0 < cN := by unfold cN; norm_num
/-- The normalising factor is at most one. -/
theorem cN_lt : cN ≤ 1 := by unfold cN; norm_num
/-- One over 448 is positive. -/
theorem cU_pos : 0 < cU := by unfold cU; norm_num
/-- One over 448 is at most one. -/
theorem cU_lt : cU ≤ 1 := by unfold cU; norm_num

/-- The signed sum at column `d` of a row. -/
def hd (y : ℕ → ℝ) (d : ℕ) : ℝ := had (fun k => y (128 * (d / 128) + k)) (d % 128)

/-- `m` is the row's largest magnitude. -/
def IsMag (y : ℕ → ℝ) (m : ℝ) : Prop := IsLUB (Set.range fun d : Fin 7424 => |hd y d.val|) m

/-- `e` is the exponent of the row's scale. -/
def IsRow (y : ℕ → ℝ) (e : ℤ) : Prop := ∃ m, IsMag y m ∧ IsExp (m * cN * cU) e

/-- The exponent is determined. -/
theorem IsExp.unique {t : ℝ} {e e' : ℤ} (h : IsExp t e) (h' : IsExp t e') : e = e' := by
  have one : (1 : ℝ) < 2 := by norm_num
  rcases h with ⟨a, rfl⟩ | ⟨a, _, _, b, c⟩ <;> rcases h' with ⟨a', rfl⟩ | ⟨a', _, _, b', c'⟩
  · rfl
  · exact absurd a' (not_le.mpr a)
  · exact absurd a (not_le.mpr a')
  · have h1 := (zpow_lt_zpow_iff_right₀ one).mp (b.trans_lt c')
    have h2 := (zpow_lt_zpow_iff_right₀ one).mp (b'.trans_lt c)
    omega

/-- The exponent of a row is determined. -/
theorem IsRow.unique {y : ℕ → ℝ} {e e' : ℤ} (h : IsRow y e) (h' : IsRow y e') : e = e' := by
  obtain ⟨m, h1, h2⟩ := h
  obtain ⟨m', h1', h2'⟩ := h'
  have : m = m' := h1.unique h1'
  subst this
  exact h2.unique h2'

/-- The signed sums of a bounded row are bounded. -/
theorem hd_le (y : ℕ → ℝ) (hy : ∀ d : Fin 7424, |y d.val| ≤ (2 : ℝ) ^ (100 : ℤ)) (d : Fin 7424) : |hd y d.val| ≤ (2 : ℝ) ^ (107 : ℤ) := by
  have hd := d.isLt
  refine (had_abs_le _ _ ((2 : ℝ) ^ (100 : ℤ)) fun k => ?_).trans ?_
  · exact hy ⟨128 * (d.val / 128) + k.val, by omega⟩
  · norm_num

/-- The largest magnitude is not negative. -/
theorem IsMag.nonneg {y : ℕ → ℝ} {m : ℝ} (h : IsMag y m) : 0 ≤ m := (abs_nonneg _).trans (h.1 ⟨(0 : Fin 7424), rfl⟩)

/-- The largest magnitude, scaled, is below the ladder's reach. -/
theorem IsMag.lt {y : ℕ → ℝ} {m : ℝ} (h : IsMag y m) (hy : ∀ d : Fin 7424, |y d.val| ≤ (2 : ℝ) ^ (100 : ℤ)) : m * cN * cU < (2 : ℝ) ^ (108 : ℤ) := by
  have h1 : m ≤ (2 : ℝ) ^ (107 : ℤ) := h.2 (by rintro _ ⟨d, rfl⟩; exact hd_le y hy d)
  have h0 := h.nonneg
  have h2 : m * cN ≤ m := mul_le_of_le_one_right h0 cN_lt
  have h3 : m * cN * cU ≤ m * cN := mul_le_of_le_one_right (mul_nonneg h0 cN_pos.le) cU_lt
  refine (h3.trans (h2.trans h1)).trans_lt ?_
  exact zpow_lt_zpow_right₀ (by norm_num) (by norm_num)

/-- The row's exponent. -/
def eRow (y : ℕ → ℝ) : ℤ := Classical.epsilon (IsRow y)
/-- The chosen exponent is the one that fits. -/
theorem eRow_eq {y : ℕ → ℝ} {e : ℤ} (h : IsRow y e) : eRow y = e := (Classical.epsilon_spec (p := IsRow y) ⟨e, h⟩).unique h

/-- The clipped quotient. -/
def clip (v : EReal) : EReal := min (Ideal.ofBits .f32 0x43E00000#32) (max (Ideal.ofBits .f32 0xC3E00000#32) v)

/-- The row's scale and its code at column `d`. -/
def scaleOf (y : ℕ → ℝ) : EReal := (((2 : ℝ) ^ eRow y : ℝ) : EReal)
def codeOf (y : ℕ → ℝ) (d : ℕ) : EReal := clip ((hd y d * ((2 : ℝ) ^ (-eRow y) * cN) : ℝ) : EReal)

/-- A value of the extended reals that is at most `z` just when zero and all of finitely many reals are is a real: their least upper bound. -/
theorem real_of_le {ι : Type} [Nonempty ι] (f : ι → ℝ) (B : ℝ) (hB : ∀ i, f i ≤ B) (M : EReal) (h : ∀ z : EReal, M ≤ z ↔ ∀ i, ((f i : ℝ) : EReal) ≤ z) :
    ∃ m : ℝ, M = (m : EReal) ∧ IsLUB (Set.range f) m := by
  have h1 : M ≤ (B : EReal) := (h _).mpr fun i => EReal.coe_le_coe_iff.mpr (hB i)
  obtain ⟨i⟩ := ‹Nonempty ι›
  have h2 : ((f i : ℝ) : EReal) ≤ M := (h M).mp le_rfl i
  induction M using EReal.rec with
  | bot => exact absurd h2 (not_le.mpr (EReal.bot_lt_coe _))
  | top => exact absurd h1 (not_le.mpr (EReal.coe_lt_top _))
  | coe m =>
    refine ⟨m, rfl, ?_, ?_⟩
    · rintro _ ⟨i, rfl⟩
      exact EReal.coe_le_coe_iff.mp ((h m).mp le_rfl i)
    · intro z hz
      exact EReal.coe_le_coe_iff.mp ((h z).mpr fun i => EReal.coe_le_coe_iff.mpr (hz ⟨i, rfl⟩))

end Cert.RotMath
end
-- ==== Proof.RotVal.lean ====
module

public import proofs.«01_k».proof.Proof.RotLift
public import proofs.«01_k».proof.Proof.RotSpec
public import proofs.«01_k».proof.Proof.RotBody

@[expose] public section

set_option maxRecDepth 16384
set_option maxHeartbeats 4000000

/-! The kernel's block of codes and of scales over the extended reals, row by row. -/

noncomputable section

namespace Cert.RotateIdeal.Hand
open Cert.RotateIdeal Cert.RotateIdeal.Gen Cert.RotMath
open Idealize.ShloMosaic hiding ix2 eq_ix2 ix3
open Idealize.ShloMosaic.ValueIdx

/-- The magnitude of a real. -/
theorem abs_coe (w : ℝ) : (max (w : EReal) (-(w : EReal))) = ((|w| : ℝ) : EReal) := by
  rw [← EReal.coe_neg, abs_eq_max_neg]
  exact (EReal.coe_strictMono.monotone.map_max).symm

/-- The running maximum with a tile's sixteen magnitudes is at most a bound just when all are. -/
theorem vmx_le (a : FVec Ideal S8x128 .f32) (v : ℕ → FVec Ideal S8x128 .f32) (y : S8x128.Idx) (z : EReal) :
    vmx a v y ≤ z ↔ a y ≤ z ∧ ∀ i : Fin 16, (max (v i.val y) (-(v i.val y)) : EReal) ≤ z := by
  have e : vmx a v y = max (a y) (max
      (max (max (max (absf (v 0) y) (absf (v 1) y)) (max (absf (v 2) y) (absf (v 3) y))) (max (max (absf (v 4) y) (absf (v 5) y)) (max (absf (v 6) y) (absf (v 7) y))))
      (max (max (max (absf (v 8) y) (absf (v 9) y)) (max (absf (v 10) y) (absf (v 11) y))) (max (max (absf (v 12) y) (absf (v 13) y)) (max (absf (v 14) y) (absf (v 15) y))))) := rfl
  rw [e]
  have ea : ∀ i, absf (v i) y = (max (v i y) (-(v i y)) : EReal) := fun i => rfl
  simp only [ea]
  generalize hw : (fun i => (max (v i y) (-(v i y)) : EReal)) = w
  have hw' : ∀ i, (max (v i y) (-(v i y)) : EReal) = w i := fun i => congrFun hw i
  simp only [hw']
  constructor
  · intro h
    simp only [max_le_iff] at h
    obtain ⟨h, ⟨⟨⟨h0, h1⟩, h2, h3⟩, ⟨h4, h5⟩, h6, h7⟩, ⟨⟨h8, h9⟩, h10, h11⟩, ⟨h12, h13⟩, h14, h15⟩ := h
    refine ⟨h, fun i => ?_⟩
    fin_cases i <;> assumption
  · rintro ⟨h, k⟩
    simp only [max_le_iff]
    exact ⟨h, ⟨⟨⟨k 0, k 1⟩, k 2, k 3⟩, ⟨k 4, k 5⟩, k 6, k 7⟩, ⟨⟨k 8, k 9⟩, k 10, k 11⟩, ⟨k 12, k 13⟩, k 14, k 15⟩

/-- The largest of the eight sublanes of a lane. -/
def amx (a : FVec Ideal S8x128 .f32) (c : Fin 128) : EReal :=
  multiReduction .maximumf [0] S128 a 0xFF800000#32 reduces_S8x128_S128 (.inl rfl) rfl (ValueIdx.ix1 c)

/-- The word of minus infinity. -/
theorem ofBits_bot : Ideal.ofBits .f32 0xFF800000#32 = ⊥ := by simp [Ideal.ofBits, Ideal.ieee]

/-- The maximum down a lane is at most a bound just when all eight values are. -/
theorem amx_le (a : FVec Ideal S8x128 .f32) (c : Fin 128) (z : EReal) : amx a c ≤ z ↔ ∀ s : Fin 8, (a (ix2 s c) : EReal) ≤ z := by
  have e : amx a c = _ := Ideal.multiReduction_maximumf_single (φ := .f32) a 0xFF800000#32 reduces_S8x128_S128 (.inl rfl) rfl (ValueIdx.ix1 c)
  rw [e]
  have hb : FloatOps.ofBits (F := Ideal) .f32 0xFF800000#32 = (⊥ : EReal) := ofBits_bot
  rw [hb]
  have hl : ∀ s : Fin 8, reduces_S8x128_S128.lift (ValueIdx.ix1 c) s = ix2 s c := fun s => by
    funext b; fin_cases b <;> rfl
  refine Iff.trans (Finset.fold_max_le (s := (Finset.univ : Finset (Fin 8))) (f := a ∘ reduces_S8x128_S128.lift (ValueIdx.ix1 c)) (b := (⊥ : EReal)) z) ?_
  constructor
  · rintro ⟨_, h⟩ s
    exact (le_of_eq (α := EReal) (congrArg a (hl s)).symm).trans (h s (Finset.mem_univ s))
  · intro h
    refine ⟨bot_le, fun s _ => ?_⟩
    exact (le_of_eq (α := EReal) (congrArg a (hl s))).trans (h s)

/-- The number each half's scale is made from. -/
theorem pay409_at (a : FVec Ideal S8x128 .f32) (c : Fin 128) : k0_pay409 a (ix2 (0 : Fin 1) c) = (amx a c * (cN : EReal) * (cU : EReal) : EReal) := by
  rw [← ofBits_cN, ← ofBits_cU]
  unfold k0_pay409 amx
  dsimp only
  rw [ValueIdx.mulf_apply, ValueIdx.mulf_apply, shapeCast_a_1a_apply]
  rfl

/-- Both halves take the row maximum alike. -/
theorem pay418_eq (a : FVec Ideal S8x128 .f32) : k0_pay418 a = k0_pay409 a := rfl

/-- One rung over a row of lanes. -/
def stv (v : FVec Ideal S1x128 .f32) (b : BitVec 32) (w : IVec S1x128 32) : IVec S1x128 32 :=
  select (cmpf .oge v (bitcastToFloat .f32 (shli (ori w (broadcast S1x128 b)) (broadcast S1x128 23#32)))) (ori w (broadcast S1x128 b)) w

/-- A rung at an index is the scalar rung. -/
theorem stv_at (v : FVec Ideal S1x128 .f32) (b : BitVec 32) (w : IVec S1x128 32) (y : S1x128.Idx) : stv v b w y = stp (v y) b (w y) := rfl

/-- The first two rungs. -/
theorem pay410_eq (a : FVec Ideal S8x128 .f32) : k0_pay410 a = stv (k0_pay409 a) 64#32 (stv (k0_pay409 a) 128#32 (broadcast S1x128 0#32)) := rfl
/-- The middle rungs. -/
theorem pay411_eq (v : FVec Ideal S1x128 .f32) (w : IVec S1x128 32) (b : BitVec 32) :
    k0_pay411 v w b = stv v 1#32 (stv v 2#32 (stv v 4#32 (stv v 8#32 (stv v 16#32 (stv v b w))))) := rfl
/-- The rungs of the second half. -/
theorem pay422_eq (v : FVec Ideal S1x128 .f32) :
    k0_pay422 v k0_pay419 k0_pay420 k0_pay421 = stv v 2#32 (stv v 4#32 (stv v 8#32 (stv v 16#32 (stv v 32#32 (stv v 64#32 (stv v 128#32 (broadcast S1x128 0#32))))))) := rfl

/-- The ladder's word, read. -/
theorem w80_at (a : FVec Ideal S8x128 .f32) (y : S1x128.Idx) : w80 a y = lad (k0_pay409 a y) := by
  unfold w80
  rw [pay411_eq, pay410_eq]
  simp only [stv_at]
  rfl

/-- The second half's ladder at an index. -/
theorem w164_at (a : FVec Ideal S8x128 .f32) (y : S1x128.Idx) : stp (k0_pay418 a y) 1#32 (w164 a y) = lad (k0_pay418 a y) := by
  unfold w164
  rw [pay422_eq]
  simp only [stv_at]
  rfl

/-- The first half's test for exponent zero or 255. -/
theorem w85_at (a : FVec Ideal S8x128 .f32) (y : S1x128.Idx) :
    w85 a y = (IntOp.cmpi .eq (w80 a y) 0#32 ||| IntOp.cmpi .eq (w80 a y) 255#32) := rfl

/-- The exponent from the biased one. -/
theorem pay413_gen (u : IVec S1x128 32) (b : IVec S1x128 1) (y : S1x128.Idx) : k0_pay413 u b y = if b y = 1#1 then 0#32 else u y - 126#32 := rfl

/-- The first half's exponent at an index. -/
theorem pay413_at (a : FVec Ideal S8x128 .f32) (y : S1x128.Idx) : k0_pay413 (w80 a) (w85 a) y = expw (lad (k0_pay409 a y)) := by
  rw [pay413_gen, w85_at, w80_at]
  rfl

/-- The second half's last rung and exponent. -/
theorem pay1_gen (v : FVec Ideal S1x128 .f32) (w : IVec S1x128 32) (y : S1x128.Idx) : k0_pay1 v w k0_pay423 y = expw (stv v 1#32 w y) := rfl

/-- The second half's exponent at an index. -/
theorem pay1_at (a : FVec Ideal S8x128 .f32) (y : S1x128.Idx) : k0_pay1 (k0_pay418 a) (w164 a) k0_pay423 y = expw (lad (k0_pay418 a y)) := by
  rw [pay1_gen, stv_at, w164_at]

/-- The scales. -/
theorem pay414_at (a : FVec Ideal S8x128 .f32) (c : Fin 128) : k0_pay414 (F := Ideal) (w80 a) (w85 a) (ix3 (0 : Fin 1) (0 : Fin 1) c) = scl (k0_pay409 a (ix2 (0 : Fin 1) c)) := by
  unfold k0_pay414 scl
  rw [shapeCast_ab_1ab_apply, ← pay413_at]
  rfl

/-- The second half's scales at an index. -/
theorem pay2_at (a : FVec Ideal S8x128 .f32) (c : Fin 128) :
    k0_pay2 (k0_pay418 a) (w164 a) k0_pay423 (ix3 (0 : Fin 1) (0 : Fin 1) c) = scl (k0_pay418 a (ix2 (0 : Fin 1) c)) := by
  unfold k0_pay2 scl
  rw [shapeCast_ab_1ab_apply, ← pay1_at]
  rfl

/-- The codes. -/
theorem pay415_at (a : FVec Ideal S8x128 .f32) (V : Vec Ideal S128x128 .f32) (c d : Fin 128) :
    k0_pay415 (w80 a) (w85 a) V (ix2 c d) = clip (V (ix2 d c) * (RotMath.inv (k0_pay409 a (ix2 (0 : Fin 1) c)) * (cN : EReal)) : EReal) := by
  unfold k0_pay415 RotMath.inv
  dsimp only
  rw [ValueIdx.truncf_apply, transpose_ix2_apply, ValueIdx.minimumf_apply, ValueIdx.maximumf_apply, ValueIdx.mulf_apply, broadcastTo_1b_ab_apply, ValueIdx.mulf_apply, ← ofBits_cN, ← pay413_at]
  rfl

/-- The second half's codes at an index. -/
theorem pay3_at (a : FVec Ideal S8x128 .f32) (V : Vec Ideal S128x128 .f32) (c d : Fin 128) :
    k0_pay3 (k0_pay418 a) (w164 a) k0_pay423 V (ix2 c d) = clip (V (ix2 d c) * (RotMath.inv (k0_pay418 a (ix2 (0 : Fin 1) c)) * (cN : EReal)) : EReal) := by
  unfold k0_pay3 RotMath.inv
  dsimp only
  rw [ValueIdx.truncf_apply, transpose_ix2_apply, ValueIdx.minimumf_apply, ValueIdx.maximumf_apply, ValueIdx.mulf_apply, broadcastTo_1b_ab_apply, ValueIdx.mulf_apply, ← ofBits_cN, ← pay1_at]
  rfl

/-- The row of a half's lane. -/
def rowOf (Y : ℕ → ℕ → ℝ) (h : Fin 2) (c : Fin 128) : ℕ → ℝ := Y (128 * h.val + c.val)

section
variable (B : Vec Ideal S256x7424 .bf16) (S : Vec Ideal S1x7424 .f32) (Y : ℕ → ℕ → ℝ)
variable (hY : ∀ (r : Fin 256) (d : Fin 7424), ((B (ix2 r d) : EReal) * (S (ix2 (0 : Fin 1) d) : EReal) : EReal) = ((Y r.val d.val : ℝ) : EReal))
include hY

/-- Every value of the rotated block. -/
theorem rb_at (h : Fin 2) (g : Fin 58) (i : ℕ) (hi : i < 16) (s : Fin 8) (c : Fin 128) :
    (rb B S h g i (ix2 s c) : EReal) = ((hd (rowOf Y h c) (128 * g.val + (8 * (8 * (i / 8) + s.val) + i % 8)) : ℝ) : EReal) := by
  have hs := s.isLt
  have := rot_at_lane (xb B h g) (sb S g) c (fun k => rowOf Y h c (128 * g.val + k)) (fun k => hY _ _) i hi s
  unfold rb
  rw [this]
  unfold hd
  have e1 : (128 * g.val + (8 * (8 * (i / 8) + s.val) + i % 8)) / 128 = g.val := by omega
  have e2 : (128 * g.val + (8 * (8 * (i / 8) + s.val) + i % 8)) % 128 = 8 * (8 * (i / 8) + s.val) + i % 8 := by omega
  rw [e1, e2]

/-- The running maximum after some trips is at most a bound just when all it has met are. -/
theorem am_le (h : Fin 2) (s : Fin 8) (c : Fin 128) (z : EReal) (n : ℕ) (hn : n ≤ 58) :
    (am B S h n (ix2 s c) : EReal) ≤ z ↔ 0 ≤ z ∧ ∀ g : Fin 58, g.val < n → ∀ i : Fin 16,
      ((|hd (rowOf Y h c) (128 * g.val + (8 * (8 * (i.val / 8) + s.val) + i.val % 8))| : ℝ) : EReal) ≤ z := by
  induction n with
  | zero =>
    have : (am B S h 0 (ix2 s c) : EReal) = 0 := Ideal.ofBits_zero_f32
    rw [this]
    exact ⟨fun h => ⟨h, fun g hg => absurd hg (by omega)⟩, fun h => h.1⟩
  | succ n ih =>
    have e : am B S h (n + 1) = vmx (am B S h n) (rb B S h (gOf n)) := rfl
    have hv : ∀ i : Fin 16, (max (rb B S h (gOf n) i.val (ix2 s c)) (-(rb B S h (gOf n) i.val (ix2 s c))) : EReal)
        = ((|hd (rowOf Y h c) (128 * n + (8 * (8 * (i.val / 8) + s.val) + i.val % 8))| : ℝ) : EReal) := fun i => by
      rw [rb_at B S Y hY h (gOf n) i.val i.isLt s c, abs_coe, gOf_of (by omega)]
    rw [e, vmx_le, ih (by omega)]
    simp only [hv]
    constructor
    · rintro ⟨⟨h0, h1⟩, h2⟩
      refine ⟨h0, fun g hg i => ?_⟩
      rcases Nat.lt_succ_iff_lt_or_eq.mp hg with hg | hg
      · exact h1 g hg i
      · rw [hg]; exact h2 i
    · rintro ⟨h0, h1⟩
      exact ⟨⟨h0, fun g hg i => h1 g (by omega) i⟩, fun i => h1 ⟨n, by omega⟩ (by simp) i⟩

/-- The largest magnitude found is the row's. -/
theorem amx_mag (hB : ∀ (r : Fin 256) (d : Fin 7424), |Y r.val d.val| ≤ (2 : ℝ) ^ (100 : ℤ)) (h : Fin 2) (c : Fin 128) :
    ∃ m : ℝ, amx (am B S h 58) c = (m : EReal) ∧ IsMag (rowOf Y h c) m := by
  refine real_of_le (fun d : Fin 7424 => |hd (rowOf Y h c) d.val|) ((2 : ℝ) ^ (107 : ℤ)) (fun d => ?_) _ fun z => ?_
  · exact hd_le _ (fun d => hB ⟨128 * h.val + c.val, by have := h.isLt; have := c.isLt; omega⟩ d) d
  rw [amx_le]
  constructor
  · intro hh d
    have hd := d.isLt
    have := ((am_le B S Y hY h ⟨d.val % 64 / 8, by omega⟩ c z 58 le_rfl).mp (hh _)).2 ⟨d.val / 128, by omega⟩ (by show d.val / 128 < 58; omega) ⟨8 * (d.val % 128 / 64) + d.val % 8, by omega⟩
    have e : 128 * (d.val / 128) + (8 * (8 * ((8 * (d.val % 128 / 64) + d.val % 8) / 8) + d.val % 64 / 8) + (8 * (d.val % 128 / 64) + d.val % 8) % 8) = d.val := by omega
    simp only [e] at this
    exact this
  · intro hh s
    rw [am_le B S Y hY h s c z 58 le_rfl]
    refine ⟨le_trans (EReal.coe_nonneg.mpr (abs_nonneg _)) (hh ⟨0, by omega⟩), fun g hg i => ?_⟩
    have := s.isLt
    have := i.isLt
    exact hh ⟨128 * g.val + (8 * (8 * (i.val / 8) + s.val) + i.val % 8), by omega⟩

/-- Each half's scale and its inverse. -/
theorem scl_row (hB : ∀ (r : Fin 256) (d : Fin 7424), |Y r.val d.val| ≤ (2 : ℝ) ^ (100 : ℤ)) (h : Fin 2) (c : Fin 128) :
    scl (k0_pay409 (am B S h 58) (ix2 (0 : Fin 1) c)) = scaleOf (rowOf Y h c) ∧
    RotMath.inv (k0_pay409 (am B S h 58) (ix2 (0 : Fin 1) c)) = (((2 : ℝ) ^ (-eRow (rowOf Y h c)) : ℝ) : EReal) := by
  obtain ⟨m, h1, h2⟩ := amx_mag B S Y hY hB h c
  have e : k0_pay409 (am B S h 58) (ix2 (0 : Fin 1) c) = ((m * cN * cU : ℝ) : EReal) := by
    rw [pay409_at, h1, EReal.coe_mul, EReal.coe_mul]
  obtain ⟨w, hw, h3, h4⟩ := scl_spec (m * cN * cU) (h2.lt fun d => hB ⟨128 * h.val + c.val, by have := h.isLt; have := c.isLt; omega⟩ d)
  have he : eRow (rowOf Y h c) = w := eRow_eq ⟨m, h2, hw⟩
  rw [e]
  unfold scaleOf
  rw [he]
  exact ⟨h3, h4⟩

/-- The block of scales. -/
theorem outS_at (hB : ∀ (r : Fin 256) (d : Fin 7424), |Y r.val d.val| ≤ (2 : ℝ) ^ (100 : ℤ)) (y : S1x2x128.Idx) :
    (outS B S y : EReal) = scaleOf (Y (128 * (y 1).val + (y 2).val)) := by
  unfold outS
  have h1 : (y 1).val < 2 := (y 1).isLt
  split
  · rename_i h
    have hh := (pay414_at (am B S 0 58) (y 2)).trans (scl_row B S Y hY hB 0 (y 2)).1
    rw [h]
    exact hh
  · rename_i h
    have hh := (pay2_at (am B S 1 58) (y 2)).trans (scl_row B S Y hY hB 1 (y 2)).1
    rw [show (y 1).val = 1 by omega]
    exact hh

/-- What is read back from the scratch. -/
theorem cb_at (h : Fin 2) (g : Fin 58) (d c : Fin 128) : (cb (sv B S) h g (ix2 d c) : EReal) = ((hd (rowOf Y h c) (128 * g.val + d.val) : ℝ) : EReal) := by
  have hh := h.isLt
  have hg := g.isLt
  have hd' := d.isLt
  have e : cb (sv B S) h g (ix2 d c) = rb B S ⟨(256 * g.val + 128 * h.val + d.val) / 128 % 2, by omega⟩ (gOf ((256 * g.val + 128 * h.val + d.val) / 256))
      (8 * ((256 * g.val + 128 * h.val + d.val) % 128 / 64) + (256 * g.val + 128 * h.val + d.val) % 8)
      (ix2 (⟨(256 * g.val + 128 * h.val + d.val) % 64 / 8, by omega⟩ : Fin 8) c) := by
    show shapeCast _ _ _ _ = _
    exact congrFun (shapeCast_self _ _) _
  rw [e, rb_at B S Y hY _ _ _ (by omega), gOf_of (by omega)]
  have e1 : (⟨(256 * g.val + 128 * h.val + d.val) / 128 % 2, by omega⟩ : Fin 2) = h := Fin.ext (by show _ / 128 % 2 = h.val; omega)
  rw [e1]
  refine congrArg (fun n => ((hd (rowOf Y h c) n : ℝ) : EReal)) ?_
  show 128 * ((256 * g.val + 128 * h.val + d.val) / 256) + (8 * (8 * ((8 * ((256 * g.val + 128 * h.val + d.val) % 128 / 64) + (256 * g.val + 128 * h.val + d.val) % 8) / 8) + (256 * g.val + 128 * h.val + d.val) % 64 / 8) + (8 * ((256 * g.val + 128 * h.val + d.val) % 128 / 64) + (256 * g.val + 128 * h.val + d.val) % 8) % 8) = 128 * g.val + d.val
  omega

/-- The block of codes. -/
theorem outC_at (hB : ∀ (r : Fin 256) (d : Fin 7424), |Y r.val d.val| ≤ (2 : ℝ) ^ (100 : ℤ)) (y : S256x7424.Idx) :
    (outC B S y : EReal) = codeOf (Y (y 0).val) (y 1).val := by
  have h0 : (y 0).val < 256 := (y 0).isLt
  have h1 : (y 1).val < 7424 := (y 1).isLt
  have key : ∀ (h : Fin 2) (c d : Fin 128) (g : Fin 58), (qf (am B S 0 58) (am B S 1 58) h (cb (sv B S) h g) (ix2 c d) : EReal) = codeOf (rowOf Y h c) (128 * g.val + d.val) := by
    intro h c d g
    have fin : ∀ E : EReal, E = (((2 : ℝ) ^ (-eRow (rowOf Y h c)) : ℝ) : EReal) →
        clip ((cb (sv B S) h g (ix2 d c) : EReal) * (E * (cN : EReal))) = codeOf (rowOf Y h c) (128 * g.val + d.val) := by
      intro E hE
      rw [hE, cb_at B S Y hY, ← EReal.coe_mul, ← EReal.coe_mul]
      rfl
    unfold qf
    fin_cases h
    · rw [if_pos rfl]
      exact (pay415_at _ _ _ _).trans (fin _ (scl_row B S Y hY hB 0 c).2)
    · rw [if_neg (by decide)]
      exact (pay3_at _ _ _ _).trans (fin _ (scl_row B S Y hY hB 1 c).2)
  unfold outC cv
  dsimp only
  rw [key]
  unfold rowOf
  have e0 : 128 * ((y 0).val / 128) + (y 0).val % 128 = (y 0).val := by omega
  have e1 : 128 * (gOf ((y 1).val / 128)).val + (y 1).val % 128 = (y 1).val := by rw [gOf_of (by omega)]; omega
  dsimp only
  rw [e0, e1]

end

end Cert.RotateIdeal.Hand
end
-- ==== Proof.RotMainVal.lean ====
module

public import proofs.«01_k».proof.Proof.RotMain
public import proofs.«01_k».proof.Proof.RotVal
public import Idealize.ShloMosaic.Lib.Claim

@[expose] public section

set_option maxRecDepth 16384
set_option maxHeartbeats 4000000

/-! The kernel's two result arrays over the extended reals: the codes and the scales of the signed rows. -/

noncomputable section

namespace Cert.RotateIdeal.Hand
open Cert.RotateIdeal Cert.RotateIdeal.Gen Cert.RotMath
open Idealize.ShloMosaic hiding ix2 eq_ix2 ix3 ix1 ix4 eq_ix4
open Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Where each window's block sits at grid point `t`. -/
theorem idx : ∀ t : Fin grid0.N, win0_0.index t 0 = t.val ∧ win0_0.index t 1 = 0 ∧ win0_1.index t 0 = 0
    ∧ win0_1.index t 1 = 0 ∧ win0_2.index t 0 = t.val ∧ win0_2.index t 1 = 0
    ∧ win0_3.index t 0 = t.val ∧ win0_3.index t 1 = 0 ∧ win0_3.index t 2 = 0 := by decide +kernel

/-- The input block of a grid point is 256 rows of the argument. -/
theorem blk0 (c : Dev nD) (t : Fin cfg0.N) (r : Fin 256) (d : Fin 7424) (R : Fin 8192) (hR : R.val = t.val * 256 + r.val) :
    iblk m c 0 t (ix2 r d) = m ((c : Thread nD τ).loc main_arg0) (ix3 (0 : Fin 1) R d) := by
  obtain ⟨i00, i01, -⟩ := idx t
  unfold iblk
  entry_read
  refine shapeCast_apply _ _ _ (ix3 (0 : Fin 1) R d) ?_
  have e0 : ((win0_0.blk t).view.emb (ix2 r d) 0 : ℕ) = R.val := by blk_simp; rw [i00, hR]; rfl
  have e1 : ((win0_0.blk t).view.emb (ix2 r d) 1 : ℕ) = d.val := by blk_simp; rw [i01]; exact (Nat.zero_mul 7424).symm ▸ Nat.zero_add d.val
  refine (Shape.rowMajor_val_three (ix3 (0 : Fin 1) R d)).trans (Eq.trans ?_ (Shape.rowMajor_val_two (d := ![8192, 7424]) ((win0_0.blk t).view.emb (ix2 r d))).symm)
  generalize (win0_0.blk t).view.emb (ix2 r d) = z at e0 e1 ⊢
  rw [e0, e1]
  show (0 * 8192 + R.val) * 7424 + d.val = R.val * 7424 + d.val
  rw [Nat.zero_mul, Nat.zero_add]

/-- Every grid point reads all signs. -/
theorem blk1 (c : Dev nD) (t : Fin cfg0.N) (d : Fin 7424) :
    iblk m c 1 t (ix2 (0 : Fin 1) d) = m ((c : Thread nD τ).loc main_arg1) (ix1 d) := by
  obtain ⟨i00, i01, i10, i11, -⟩ := idx t
  unfold iblk
  entry_read
  refine shapeCast_apply _ _ _ (ix1 d) ?_
  have e0 : ((win0_1.blk t).view.emb (ix2 (0 : Fin 1) d) 0 : ℕ) = 0 := by blk_simp; rw [i10]
  have e1 : ((win0_1.blk t).view.emb (ix2 (0 : Fin 1) d) 1 : ℕ) = d.val := by blk_simp; rw [i11]; exact (Nat.zero_mul 7424).symm ▸ Nat.zero_add d.val
  refine (Shape.rowMajor_val_one (ix1 d)).trans (Eq.trans ?_ (Shape.rowMajor_val_two (d := ![1, 7424]) ((win0_1.blk t).view.emb (ix2 (0 : Fin 1) d))).symm)
  generalize (win0_1.blk t).view.emb (ix2 (0 : Fin 1) d) = z at e0 e1 ⊢
  rw [e0, e1]
  show d.val = 0 * 7424 + d.val
  rw [Nat.zero_mul, Nat.zero_add]

/-- The two arguments. -/
abbrev xOf (c : Dev nD) : FVec Ideal S1x8192x7424 .bf16 := m ((c : Thread nD τ).loc main_arg0)
abbrev sOf (c : Dev nD) : FVec Ideal S7424 .f32 := m ((c : Thread nD τ).loc main_arg1)
abbrev blkX (c : Dev nD) (t : Fin cfg0.N) : FVec Ideal S256x7424 .bf16 := iblk m c 0 t
abbrev blkS (c : Dev nD) (t : Fin cfg0.N) : FVec Ideal S1x7424 .f32 := iblk m c 1 t

section
variable (c : Dev nD) (Y : ℕ → ℕ → ℝ)
    (hY : ∀ (r : Fin 8192) (d : Fin 7424), (xOf m c (ix3 (0 : Fin 1) r d) : EReal) * sOf m c (ix1 d) = ((Y r.val d.val : ℝ) : EReal))
    (hB : ∀ (r : Fin 8192) (d : Fin 7424), |Y r.val d.val| ≤ (2 : ℝ) ^ (100 : ℤ))

include hY in
/-- The signed block of a grid point is 256 rows of the signed input. -/
theorem hY' (t : Fin cfg0.N) (r : Fin 256) (d : Fin 7424) :
    (blkX m c t (ix2 r d) : EReal) * blkS m c t (ix2 (0 : Fin 1) d) = (((fun r d => Y (t.val * 256 + r) d) r.val d.val : ℝ) : EReal) := by
  have h1 : t.val < 32 := t.isLt
  have h2 := r.isLt
  have e := hY ⟨t.val * 256 + r.val, by omega⟩ d
  have f0 : blkX m c t (ix2 r d) = xOf m c (ix3 (0 : Fin 1) ⟨t.val * 256 + r.val, by omega⟩ d) := blk0 m c t r d _ rfl
  have f1 : blkS m c t (ix2 (0 : Fin 1) d) = sOf m c (ix1 d) := blk1 m c t d
  rw [f0, f1]
  exact e
include hB in
/-- A grid point's rows are bounded as all rows are. -/
theorem hB' (t : Fin cfg0.N) (r : Fin 256) (d : Fin 7424) : |(fun r d => Y (t.val * 256 + r) d) r.val d.val| ≤ (2 : ℝ) ^ (100 : ℤ) := by
  have h1 : t.val < 32 := t.isLt
  have h2 := r.isLt
  exact hB ⟨t.val * 256 + r.val, by omega⟩ d

include hY hB
/-- The codes after the run. -/
theorem final2 : (dats m 0 c).arrAt 2 cfg0.N = (fun z => codeOf (Y (z 0).val) (z 1).val : FVec Ideal S8192x7424 .fp8e4m3) := by
  refine (dats m 0 c).arrAt_eq_of_covers 2 _ (by decide +kernel) fun t hf y => ?_
  blk_simp
  rw [after0_2, outC_at _ _ (fun r d => Y (t.val * 256 + r) d) (hY' m c Y hY t) (hB' Y hB t) y]
  obtain ⟨-, -, -, -, i20, i21, -⟩ := idx t
  rw [i20, i21]
  simp only [Nat.zero_mul, Nat.zero_add]

/-- The scales after the run. -/
theorem final3 : (dats m 0 c).arrAt 3 cfg0.N = (fun z => scaleOf (Y (256 * (z 0).val + 128 * (z 1).val + (z 2).val)) : FVec Ideal S32x2x128 .f32) := by
  refine (dats m 0 c).arrAt_eq_of_covers 3 _ (by decide +kernel) fun t hf y => ?_
  blk_simp
  rw [after0_3, outS_at _ _ (fun r d => Y (t.val * 256 + r) d) (hY' m c Y hY t) (hB' Y hB t) y]
  obtain ⟨-, -, -, -, -, -, i30, i31, i32⟩ := idx t
  rw [i30, i31, i32]
  simp only [Nat.zero_mul, Nat.zero_add, Nat.mul_comm 256, Nat.add_assoc]
end
end Cert.RotateIdeal.Hand
end
-- ==== Proof.RefQuant.lean ====
module

public import proofs.«01_k».proof.Proof.Gen.RotateRefIdeal.Skeleton
public import proofs.«01_k».proof.Proof.RotSpec
public import Idealize.ShloMosaic.Lib.ValueIdx
public import Idealize.ShloMosaic.Lib.ValueLayoutCasts
public import Mathlib.Tactic.FinCases
public import Mathlib.Tactic.Ring
public import Mathlib.Analysis.SpecialFunctions.Pow.Real

@[expose] public section

set_option maxRecDepth 16384
set_option maxHeartbeats 4000000

/-! The reference's quantiser over the extended reals, row by row. -/

noncomputable section

namespace Cert.RotateRefIdeal.Hand
open Cert.RotateRefIdeal Cert.RotateRefIdeal.Gen Cert.RotMath
open Idealize.ShloMosaic hiding ix2 eq_ix2 ix3 ix1
open Idealize.ShloMosaic.ValueIdx

/-- The magnitude of a real. -/
theorem abs_coe (w : ℝ) : (max (w : EReal) (-(w : EReal))) = ((|w| : ℝ) : EReal) := by
  rw [← EReal.coe_neg, abs_eq_max_neg]
  exact (EReal.coe_strictMono.monotone.map_max).symm

/-- The word of minus infinity. -/
theorem ofBits_bot : Ideal.ofBits .f32 0xFF800000#32 = ⊥ := by simp [Ideal.ofBits, Ideal.ieee]
/-- The word of infinity. -/
theorem ofBits_top : Ideal.ofBits .f32 0x7F800000#32 = ⊤ := by simp [Ideal.ofBits, Ideal.ieee]
/-- The word of the least normal number. -/
theorem ofBits_min : Ideal.ofBits .f32 0x00800000#32 = (((2 : ℝ) ^ (-126 : ℤ) : ℝ) : EReal) := by
  simp [Ideal.ofBits, Ideal.ieee, -EReal.coe_mul]; try norm_num

/-- A constant read at an index. -/
theorem bc_at (s : Shape) (b : BitVec 32) (y : s.Idx) : broadcast s (FloatOps.ofBits (F := Ideal) .f32 b) y = Ideal.ofBits .f32 b := rfl

/-- A row's largest magnitude. -/
def rmx (V : FVec Ideal S8192x7424 .f32) (r : Fin 8192) : EReal :=
  multiReduction (F := Ideal) .maximumf [1] S8192 (absf (k0_pay1 V)) 0xFF800000#32 reduces_S8192x7424_S8192 (.inl rfl) rfl (ix1 r)

/-- A row's largest magnitude is at most a bound just when every magnitude is. -/
theorem rmx_le (V : FVec Ideal S8192x7424 .f32) (r : Fin 8192) (z : EReal) :
    rmx V r ≤ z ↔ ∀ d : Fin 7424, (max (V (ix2 r d) : EReal) (-(V (ix2 r d) : EReal)) : EReal) ≤ z := by
  have e : rmx V r = _ := Ideal.multiReduction_maximumf_single (φ := .f32) (absf (k0_pay1 V)) 0xFF800000#32 reduces_S8192x7424_S8192 (.inl rfl) rfl (ix1 r)
  rw [e]
  have hb : FloatOps.ofBits (F := Ideal) .f32 0xFF800000#32 = (⊥ : EReal) := ofBits_bot
  rw [hb]
  have hl : ∀ d : Fin 7424, reduces_S8192x7424_S8192.lift (ix1 r) d = ix2 r d := fun d => by
    funext b; fin_cases b <;> rfl
  have hp : k0_pay1 V = V := shapeCast_self _ _
  rw [hp]
  refine Iff.trans (Finset.fold_max_le (s := (Finset.univ : Finset (Fin 7424))) (f := absf V ∘ reduces_S8192x7424_S8192.lift (ix1 r)) (b := (⊥ : EReal)) z) ?_
  constructor
  · rintro ⟨_, h⟩ d
    exact (le_of_eq (α := EReal) (congrArg (absf V) (hl d)).symm).trans (h d (Finset.mem_univ d))
  · intro h
    refine ⟨bot_le, fun d _ => ?_⟩
    exact (le_of_eq (α := EReal) (congrArg (absf V) (hl d))).trans (h d)

/-- The table of powers. -/
def pw : FVec Ideal S1x253 .f32 := exp2 (sitofp .f32 (subi (iota .tc S1x253 32 [1] iota_S1x253_d1_w32) (broadcast S1x253 125#32)))

/-- The exponents in the table. -/
theorem int_at : ∀ k : Fin 253, (BitVec.ofNat 32 k.val - 125#32).toInt = (k.val : ℤ) - 125 := by decide +kernel

/-- The powers in the table. -/
theorem pw_at (k : Fin 253) : pw (ix2 (0 : Fin 1) k) = (((2 : ℝ) ^ ((k.val : ℤ) - 125) : ℝ) : EReal) := by
  have e : pw (ix2 (0 : Fin 1) k) = Ideal.exp2 ((((BitVec.ofNat 32 (0 * 253 + k.val) - 125#32).toInt : ℝ)) : EReal) := rfl
  rw [e, Nat.zero_mul, Nat.zero_add, Ideal.exp2_coe, int_at]
  congr 1
  exact Real.rpow_intCast _ _

/-- The least power above a number. -/
def abv (r : Fin 8192) (p : FVec Ideal S8192x1 .f32) : EReal :=
  multiReduction (F := Ideal) .minimumf [1] S8192 (select (cmpf .ogt (broadcastTo S8192x253 pw broadcasts_S1x253_S8192x253) (broadcastTo S8192x253 p broadcasts_S8192x1_S8192x253))
    (broadcastTo S8192x253 (shapeCast S1x253 pw shapeCasts_S1x253_S1x253) broadcasts_S1x253_S8192x253) (broadcast S8192x253 (Scalar.ofBits .f32 0x7F800000#32)))
    0x7F800000#32 reduces_S8192x253_S8192 (.inl rfl) rfl (ix1 r)

/-- The least power at an exponent's number. -/
theorem abv_eq (t : ℝ) (e : ℤ) (h1 : -125 ≤ e) (h2 : e ≤ 109) (h3 : (2 : ℝ) ^ (e - 1) ≤ t) (h4 : t < (2 : ℝ) ^ e) (r : Fin 8192) (p : FVec Ideal S8192x1 .f32)
    (hp : p (ix2 r (0 : Fin 1)) = (t : EReal)) : abv r p = (((2 : ℝ) ^ e : ℝ) : EReal) := by
  have one : (1 : ℝ) < 2 := by norm_num
  set f : FVec Ideal S8192x253 .f32 := select (cmpf .ogt (broadcastTo S8192x253 pw broadcasts_S1x253_S8192x253) (broadcastTo S8192x253 p broadcasts_S8192x1_S8192x253))
    (broadcastTo S8192x253 (shapeCast S1x253 pw shapeCasts_S1x253_S1x253) broadcasts_S1x253_S8192x253) (broadcast S8192x253 (Scalar.ofBits .f32 0x7F800000#32)) with hf
  have hfk : ∀ k : Fin 253, (f (ix2 r k) : EReal) = if t < (2 : ℝ) ^ ((k.val : ℤ) - 125) then (((2 : ℝ) ^ ((k.val : ℤ) - 125) : ℝ) : EReal) else ⊤ := by
    intro k
    have e1 : f (ix2 r k) = Scalar.select (Ideal.cmp .ogt (pw (ix2 (0 : Fin 1) k)) (p (ix2 r (0 : Fin 1)))) (pw (ix2 (0 : Fin 1) k)) (Ideal.ofBits .f32 0x7F800000#32) := by
      rw [hf, ValueIdx.select_apply, shapeCast_self]
      have q1 : (broadcastTo S8192x253 pw broadcasts_S1x253_S8192x253) (ix2 r k) = pw (ix2 (0 : Fin 1) k) := broadcastTo_1b_ab_apply _ _ _ _
      have q2 : (broadcastTo S8192x253 p broadcasts_S8192x1_S8192x253) (ix2 r k) = p (ix2 r (0 : Fin 1)) := by
        refine broadcastTo_apply _ _ _ _ fun a => ?_
        fin_cases a <;> rfl
      rw [q1]
      show Scalar.select (Ideal.cmp .ogt (broadcastTo S8192x253 pw broadcasts_S1x253_S8192x253 (ix2 r k)) (broadcastTo S8192x253 p broadcasts_S8192x1_S8192x253 (ix2 r k))) _ _ = _
      rw [q1, q2]
      rfl
    rw [e1, pw_at, hp, ofBits_top]
    show (if Ideal.cmp .ogt _ _ = 1#1 then _ else _) = _
    by_cases h : t < (2 : ℝ) ^ ((k.val : ℤ) - 125)
    · rw [if_pos h, if_pos]
      show BitVec.ofBool (decide ((t : EReal) < _)) = 1#1
      rw [decide_eq_true (EReal.coe_lt_coe_iff.mpr h)]; rfl
    · rw [if_neg h, if_neg]
      show ¬ BitVec.ofBool (decide ((t : EReal) < _)) = 1#1
      rw [decide_eq_false (fun hh => h (EReal.coe_lt_coe_iff.mp hh))]; decide
  have e0 : abv r p = (Finset.univ : Finset (Fin 253)).fold min (⊤ : EReal) (f ∘ reduces_S8192x253_S8192.lift (ix1 r)) := by
    rw [← ofBits_top]
    unfold abv
    refine (multiReduction_minimumf_eq_fold (F := Ideal) (φ := .f32) f 0x7F800000#32 reduces_S8192x253_S8192 (.inl rfl) rfl (ix1 r)).trans ?_
    exact reduces_S8192x253_S8192.fold_filter_drop_single _ _ f (ix1 r)
  have hl : ∀ k : Fin 253, reduces_S8192x253_S8192.lift (ix1 r) k = ix2 r k := fun k => by
    funext b; fin_cases b <;> rfl
  have hg : ∀ k : Fin 253, ((f ∘ reduces_S8192x253_S8192.lift (ix1 r)) k : EReal) = if t < (2 : ℝ) ^ ((k.val : ℤ) - 125) then (((2 : ℝ) ^ ((k.val : ℤ) - 125) : ℝ) : EReal) else ⊤ :=
    fun k => (congrArg f (hl k)).trans (hfk k)
  have e2 : abv r p = (Finset.univ : Finset (Fin 253)).fold min (⊤ : EReal)
      (fun k => if t < (2 : ℝ) ^ ((k.val : ℤ) - 125) then (((2 : ℝ) ^ ((k.val : ℤ) - 125) : ℝ) : EReal) else ⊤) :=
    e0.trans (Finset.fold_congr fun k _ => hg k)
  rw [e2]
  refine le_antisymm ?_ ?_
  · rw [Finset.fold_min_le]
    refine Or.inr ⟨⟨(e + 125).toNat, by omega⟩, Finset.mem_univ _, ?_⟩
    have hk : (((e + 125).toNat : ℕ) : ℤ) - 125 = e := by omega
    simp only [hk]
    rw [if_pos h4]
  · rw [Finset.le_fold_min]
    refine ⟨le_top, fun k _ => ?_⟩
    split
    · rename_i h
      have := (zpow_lt_zpow_iff_right₀ one).mp (h3.trans_lt h)
      exact EReal.coe_le_coe_iff.mpr (zpow_le_zpow_right₀ one.le (by omega))
    · exact le_top

section
variable (V : FVec Ideal S8192x7424 .f32) (Y : ℕ → ℕ → ℝ)
variable (hV : ∀ (r : Fin 8192) (d : Fin 7424), (V (ix2 r d) : EReal) = ((hd (Y r.val) d.val * cN : ℝ) : EReal))
variable (hB : ∀ (r : Fin 8192) (d : Fin 7424), |Y r.val d.val| ≤ (2 : ℝ) ^ (100 : ℤ))
include hV hB

/-- A row's largest magnitude is that of its signed sums, normalised. -/
theorem rmx_mag (r : Fin 8192) : ∃ m : ℝ, rmx V r = ((m * cN : ℝ) : EReal) ∧ IsMag (Y r.val) m := by
  have hc := cN_pos
  obtain ⟨m, h1, h2⟩ := real_of_le (fun d : Fin 7424 => |hd (Y r.val) d.val| * cN) ((2 : ℝ) ^ (107 : ℤ) * cN)
    (fun d => mul_le_mul_of_nonneg_right (hd_le _ (hB r) d) hc.le) (rmx V r) fun z => by
      rw [rmx_le]
      refine forall_congr' fun d => ?_
      rw [hV, abs_coe, abs_mul, abs_of_pos hc]
  refine ⟨m / cN, by rw [div_mul_cancel₀ _ hc.ne']; exact h1, ?_, ?_⟩
  · rintro _ ⟨d, rfl⟩
    exact (le_div_iff₀ hc).mpr (h2.1 ⟨d, rfl⟩)
  · intro z hz
    refine (div_le_iff₀ hc).mpr (h2.2 ?_)
    rintro _ ⟨d, rfl⟩
    exact mul_le_mul_of_nonneg_right (hz ⟨d, rfl⟩) hc.le

/-- The scales. -/
theorem pay2_at (r : Fin 8192) : k0_pay2 (F := Ideal) V (ix2 r (0 : Fin 1)) = scaleOf (Y r.val) := by
  obtain ⟨m, h1, h2⟩ := rmx_mag V Y hV hB r
  obtain ⟨e, he, -, -⟩ := scl_spec (m * cN * cU) (h2.lt (hB r))
  have hr : eRow (Y r.val) = e := eRow_eq ⟨m, h2, he⟩
  set p : FVec Ideal S8192x1 .f32 := mulf (shapeCast S8192x1 (multiReduction .maximumf [1] S8192 (absf (k0_pay1 V)) 0xFF800000#32 reduces_S8192x7424_S8192 (.inl rfl) rfl) shapeCasts_S8192_S8192x1)
    (broadcast S8192x1 (Scalar.ofBits .f32 0x3B124925#32)) with hp
  clear_value p
  have hpr : p (ix2 r (0 : Fin 1)) = ((m * cN * cU : ℝ) : EReal) := by
    rw [hp, ValueIdx.mulf_apply, shapeCast_a_a1_apply, EReal.coe_mul, ← h1, ← ofBits_cU]
    rfl
  have e1 : k0_pay2 V (ix2 r (0 : Fin 1)) = Scalar.select (Ideal.cmp .olt (p (ix2 r (0 : Fin 1))) (Ideal.ofBits .f32 0x00800000#32)) (Ideal.ofBits .f32 0x3F800000#32)
      (abv r p) := by
    have : k0_pay2 V = select (cmpf .olt p (broadcast S8192x1 (Scalar.ofBits .f32 0x00800000#32))) (broadcast S8192x1 (Scalar.ofBits .f32 0x3F800000#32))
      (shapeCast S8192x1 (multiReduction (F := Ideal) .minimumf [1] S8192 (select (cmpf .ogt (broadcastTo S8192x253 pw broadcasts_S1x253_S8192x253) (broadcastTo S8192x253 p broadcasts_S8192x1_S8192x253))
    (broadcastTo S8192x253 (shapeCast S1x253 pw shapeCasts_S1x253_S1x253) broadcasts_S1x253_S8192x253) (broadcast S8192x253 (Scalar.ofBits .f32 0x7F800000#32)))
    0x7F800000#32 reduces_S8192x253_S8192 (.inl rfl) rfl) shapeCasts_S8192_S8192x1) := by
      rw [hp]; unfold k0_pay2 pw; rfl
    have hc : ∀ q : FVec Ideal S8192x1 .f32, (cmpf .olt p q) (ix2 r (0 : Fin 1)) = Ideal.cmp .olt (p (ix2 r (0 : Fin 1))) (q (ix2 r (0 : Fin 1))) := fun _ => rfl
    rw [this, ValueIdx.select_apply, shapeCast_a_a1_apply, hc, bc_at, bc_at]
    unfold abv
    rfl
  rw [e1, hpr, ofBits_min, Ideal.ofBits_one_f32]
  unfold scaleOf
  rw [hr]
  show (if Ideal.cmp .olt _ _ = 1#1 then _ else _) = _
  rcases he with ⟨ha, rfl⟩ | ⟨ha, hb, hc, hd1, hd2⟩
  · rw [if_pos]
    · simp
    · show BitVec.ofBool (decide (_ < _)) = 1#1
      rw [decide_eq_true (EReal.coe_lt_coe_iff.mpr ha)]; rfl
  · rw [if_neg]
    · exact abv_eq _ e hb hc hd1 hd2 r p hpr
    · show ¬ BitVec.ofBool (decide (_ < _)) = 1#1
      rw [decide_eq_false (fun hh => absurd (EReal.coe_lt_coe_iff.mp hh) (not_lt.mpr ha))]; decide

/-- The codes. -/
theorem pay3_at (r : Fin 8192) (d : Fin 7424) : k0_pay3 (F := Ideal) V (ix2 r d) = codeOf (Y r.val) d.val := by
  have hp : k0_pay1 V = V := shapeCast_self _ _
  have q2 : (broadcastTo S8192x7424 (k0_pay2 (F := Ideal) V) broadcasts_S8192x1_S8192x7424) (ix2 r d) = k0_pay2 V (ix2 r (0 : Fin 1)) := by
    refine broadcastTo_apply _ _ _ _ fun a => ?_
    fin_cases a <;> rfl
  have e : k0_pay3 (F := Ideal) V (ix2 r d) = clip (Ideal.div (k0_pay1 (F := Ideal) V (ix2 r d)) ((broadcastTo S8192x7424 (k0_pay2 (F := Ideal) V) broadcasts_S8192x1_S8192x7424) (ix2 r d))) := by
    unfold k0_pay3
    rw [ValueIdx.truncf_apply, ValueIdx.minimumf_apply, ValueIdx.maximumf_apply, ValueIdx.divf_apply]
    rw [bc_at, bc_at]
    unfold clip
    rfl
  rw [e, q2, hp, hV, pay2_at V Y hV hB]
  unfold codeOf scaleOf
  refine congrArg clip ?_
  have h2 : ((2 : ℝ) ^ eRow (Y r.val)) ≠ 0 := by positivity
  have h3 : hd (Y r.val) d.val * cN * (1 / (2 : ℝ) ^ eRow (Y r.val)) = hd (Y r.val) d.val * ((2 : ℝ) ^ (-eRow (Y r.val)) * cN) := by
    rw [zpow_neg, one_div]; ring
  rw [Ideal.div_coe h2, ← EReal.coe_mul, h3]

end

end Cert.RotateRefIdeal.Hand
end
-- ==== Proof.KronMath.lean ====
module

public import proofs.«01_k».proof.Proof.RotSpec
public import Idealize.ShloMosaic.Lib.ValueIdx
public import Idealize.ShloMosaic.Lib.ValueLayoutCasts
public import Mathlib.Tactic.FinCases
public import Mathlib.Tactic.Ring

@[expose] public section

/-! The sign matrix built by Kronecker products of the two-by-two one, and its product with the rows, over the extended reals. -/

noncomputable section

namespace Cert.RotMath
open Idealize.ShloMosaic hiding ix2 eq_ix2 ix3 ix1 ix4 eq_ix4
open Idealize.ShloMosaic.ValueIdx

/-- `H` holds the signs of level `k`. -/
def IsSg (n k : ℕ) (H : FVec Ideal ⟨2, ![n, n]⟩ .f32) : Prop := ∀ a b : Fin n, (H (ix2 a b) : EReal) = (((sg k a.val b.val : ℤ) : ℝ) : EReal)

/-- One Kronecker product with the two-by-two matrix, read from its two spread-out factors. -/
theorem IsSg.fold {n k N : ℕ} (hN : N = n * 2) (P Q : FVec Ideal ⟨4, ![n, 2, n, 2]⟩ .f32)
    (hP : ∀ (a : Fin n) (p : Fin 2) (b : Fin n) (q : Fin 2), (P (ix4 a p b q) : EReal) = (((sg k a.val b.val : ℤ) : ℝ) : EReal))
    (hQ : ∀ (a : Fin n) (p : Fin 2) (b : Fin n) (q : Fin 2), (Q (ix4 a p b q) : EReal) = (((sg 1 p.val q.val : ℤ) : ℝ) : EReal))
    (h : (⟨4, ![n, 2, n, 2]⟩ : Shape).ShapeCasts ⟨2, ![N, N]⟩) : IsSg N (k + 1) (shapeCast ⟨2, ![N, N]⟩ (mulf P Q) h) := by
  subst hN
  intro a b
  have ha := a.isLt
  have hb := b.isLt
  rw [shapeCast_apply _ h _ (ix4 (⟨a.val / 2, by omega⟩ : Fin n) (⟨a.val % 2, by omega⟩ : Fin 2) (⟨b.val / 2, by omega⟩ : Fin n) (⟨b.val % 2, by omega⟩ : Fin 2))]
  · rw [ValueIdx.mulf_apply, hP, hQ, ← EReal.coe_mul]
    congr 1
    have e : sg 1 (a.val % 2) (b.val % 2) = if a.val % 2 = 1 ∧ b.val % 2 = 1 then -1 else 1 := by simp [sg]
    show ((sg k (a.val / 2) (b.val / 2) : ℤ) : ℝ) * ((sg 1 (a.val % 2) (b.val % 2) : ℤ) : ℝ) = ((sg (k + 1) a.val b.val : ℤ) : ℝ)
    rw [e, ← Int.cast_mul]
    rfl
  · rw [Shape.rowMajor_val_four, Shape.rowMajor_val_two]
    show ((a.val / 2 * 2 + a.val % 2) * n + b.val / 2) * 2 + b.val % 2 = a.val * (n * 2) + b.val
    rw [Nat.div_add_mod' a.val 2, Nat.add_mul, Nat.add_assoc, Nat.div_add_mod' b.val 2, Nat.mul_assoc]

/-- One Kronecker product. -/
theorem IsSg.step {n k N : ℕ} (hN : N = n * 2) (hn : n ≠ 1) (H : FVec Ideal ⟨2, ![n, n]⟩ .f32) (M : FVec Ideal ⟨2, ![2, 2]⟩ .f32) (hH : IsSg n k H) (hM : IsSg 2 1 M)
    (h0 : (⟨2, ![n, n]⟩ : Shape).BroadcastsInDim ⟨4, ![n, 1, n, 1]⟩ ![0, 2]) (h1 : (⟨2, ![2, 2]⟩ : Shape).BroadcastsInDim ⟨4, ![1, 2, 1, 2]⟩ ![1, 3])
    (h2 : (⟨4, ![n, 1, n, 1]⟩ : Shape).BroadcastsInDim ⟨4, ![n, 2, n, 2]⟩ ![0, 1, 2, 3]) (h3 : (⟨4, ![1, 2, 1, 2]⟩ : Shape).BroadcastsInDim ⟨4, ![n, 2, n, 2]⟩ ![0, 1, 2, 3])
    (h : (⟨4, ![n, 2, n, 2]⟩ : Shape).ShapeCasts ⟨2, ![N, N]⟩) :
    IsSg N (k + 1) (shapeCast ⟨2, ![N, N]⟩ (mulf (φ := .f32) (broadcastInDim ⟨4, ![n, 2, n, 2]⟩ ![0, 1, 2, 3] h2 (broadcastInDim ⟨4, ![n, 1, n, 1]⟩ ![0, 2] h0 H))
      (broadcastInDim ⟨4, ![n, 2, n, 2]⟩ ![0, 1, 2, 3] h3 (broadcastInDim ⟨4, ![1, 2, 1, 2]⟩ ![1, 3] h1 M))) h) := by
  refine IsSg.fold hN _ _ (fun a p b q => ?_) (fun a p b q => ?_) h
  · rw [broadcastInDim_apply _ h2 _ _ (ix4 a (0 : Fin 1) b (0 : Fin 1))]
    · rw [broadcastInDim_apply _ h0 _ _ (ix2 a b)]
      · exact hH a b
      · intro f; fin_cases f
        · exact (if_neg hn).symm
        · exact (if_neg hn).symm
    · intro f; fin_cases f
      · exact (if_neg hn).symm
      · rfl
      · exact (if_neg hn).symm
      · rfl
  · rw [broadcastInDim_apply _ h3 _ _ (ix4 (0 : Fin 1) p (0 : Fin 1) q)]
    · rw [broadcastInDim_apply _ h1 _ _ (ix2 p q)]
      · exact hM p q
      · intro f; fin_cases f <;> rfl
    · intro f; fin_cases f <;> rfl

/-- The first Kronecker product, with the one-by-one matrix of one. -/
theorem IsSg.first (H : FVec Ideal ⟨2, ![1, 1]⟩ .f32) (M : FVec Ideal ⟨2, ![2, 2]⟩ .f32) (hH : IsSg 1 0 H) (hM : IsSg 2 1 M)
    (h0 : (⟨2, ![1, 1]⟩ : Shape).BroadcastsInDim ⟨4, ![1, 1, 1, 1]⟩ ![0, 2]) (h1 : (⟨2, ![2, 2]⟩ : Shape).BroadcastsInDim ⟨4, ![1, 2, 1, 2]⟩ ![1, 3])
    (h2 : (⟨4, ![1, 1, 1, 1]⟩ : Shape).BroadcastsInDim ⟨4, ![1, 2, 1, 2]⟩ ![0, 1, 2, 3])
    (h : (⟨4, ![1, 2, 1, 2]⟩ : Shape).ShapeCasts ⟨2, ![2, 2]⟩) :
    IsSg 2 1 (shapeCast ⟨2, ![2, 2]⟩ (mulf (φ := .f32) (broadcastInDim ⟨4, ![1, 2, 1, 2]⟩ ![0, 1, 2, 3] h2 (broadcastInDim ⟨4, ![1, 1, 1, 1]⟩ ![0, 2] h0 H))
      (broadcastInDim ⟨4, ![1, 2, 1, 2]⟩ ![1, 3] h1 M)) h) := by
  refine IsSg.fold (n := 1) (k := 0) rfl _ _ (fun a p b q => ?_) (fun a p b q => ?_) h
  · rw [broadcastInDim_apply _ h2 _ _ (ix4 (0 : Fin 1) (0 : Fin 1) (0 : Fin 1) (0 : Fin 1))]
    · rw [broadcastInDim_apply _ h0 _ _ (ix2 (0 : Fin 1) (0 : Fin 1))]
      · exact hH 0 0
      · intro f; fin_cases f <;> rfl
    · intro f; fin_cases f <;> rfl
  · rw [broadcastInDim_apply _ h1 _ _ (ix2 p q)]
    · exact hM p q
    · intro f; fin_cases f <;> rfl

/-- A finite sum of reals in the extended reals. -/
theorem coe_sum {n : ℕ} (f : Fin n → ℝ) : (∑ k, ((f k : ℝ) : EReal)) = ((∑ k, f k : ℝ) : EReal) :=
  (map_sum (⟨⟨((↑) : ℝ → EReal), rfl⟩, EReal.coe_add⟩ : ℝ →+ EReal) f Finset.univ).symm

end Cert.RotMath
end
-- ==== Proof.RefHost.lean ====
module

public import proofs.«01_k».proof.Proof.Gen.RotateRefIdeal.Frame
public import proofs.«01_k».proof.Proof.RefQuant
public import proofs.«01_k».proof.Proof.KronMath
public import Idealize.ShloMosaic.Lib.Claim
public import Idealize.ShloMosaic.Lib.StableHlo.ReadAt

@[expose] public section

set_option maxRecDepth 16384
set_option maxHeartbeats 4000000

/-! What the reference's host lines hand its quantiser: every row's groups times the normalised sign matrix. -/

noncomputable section

namespace Cert.RotateRefIdeal.Hand
open Cert.RotateRefIdeal Cert.RotateRefIdeal.Gen Cert.RotMath
open Idealize.ShloMosaic hiding ix2 eq_ix2 ix3 ix1 ix4 eq_ix4
open Idealize.ShloMosaic.ValueIdx Idealize.ShloMosaic.TcCoe

/-- The two-by-two sign matrix, and the one-by-one one. -/
def M2 : FVec Ideal S2x2 .f32 := fun i => FloatOps.ofBits .f32 (lit0 (S2x2.rowMajor i))
def K0 : FVec Ideal S1x1 .f32 := broadcastInDim S1x1 ![] bcast_S_S1x1 (constant S_ .f32 0x3F800000#32)
/-- The sign matrices of the seven levels. -/
def K1 : FVec Ideal S2x2 .f32 := shapeCast S2x2 (mulf (φ := .f32) (broadcastInDim S1x2x1x2 ![0, 1, 2, 3] bcast_S1x1x1x1_S1x2x1x2_0_1_2_3 (broadcastInDim S1x1x1x1 ![0, 2] bcast_S1x1_S1x1x1x1_0_2 K0))
  (broadcastInDim S1x2x1x2 ![1, 3] bcast_S2x2_S1x2x1x2_1_3 M2)) shapeCasts_S1x2x1x2_S2x2
def K2 : FVec Ideal S4x4 .f32 := shapeCast S4x4 (mulf (φ := .f32) (broadcastInDim S2x2x2x2 ![0, 1, 2, 3] bcast_S2x1x2x1_S2x2x2x2_0_1_2_3 (broadcastInDim S2x1x2x1 ![0, 2] bcast_S2x2_S2x1x2x1_0_2 K1))
  (broadcastInDim S2x2x2x2 ![0, 1, 2, 3] bcast_S1x2x1x2_S2x2x2x2_0_1_2_3 (broadcastInDim S1x2x1x2 ![1, 3] bcast_S2x2_S1x2x1x2_1_3 M2))) shapeCasts_S2x2x2x2_S4x4
def K3 : FVec Ideal S8x8 .f32 := shapeCast S8x8 (mulf (φ := .f32) (broadcastInDim S4x2x4x2 ![0, 1, 2, 3] bcast_S4x1x4x1_S4x2x4x2_0_1_2_3 (broadcastInDim S4x1x4x1 ![0, 2] bcast_S4x4_S4x1x4x1_0_2 K2))
  (broadcastInDim S4x2x4x2 ![0, 1, 2, 3] bcast_S1x2x1x2_S4x2x4x2_0_1_2_3 (broadcastInDim S1x2x1x2 ![1, 3] bcast_S2x2_S1x2x1x2_1_3 M2))) shapeCasts_S4x2x4x2_S8x8
def K4 : FVec Ideal S16x16 .f32 := shapeCast S16x16 (mulf (φ := .f32) (broadcastInDim S8x2x8x2 ![0, 1, 2, 3] bcast_S8x1x8x1_S8x2x8x2_0_1_2_3 (broadcastInDim S8x1x8x1 ![0, 2] bcast_S8x8_S8x1x8x1_0_2 K3))
  (broadcastInDim S8x2x8x2 ![0, 1, 2, 3] bcast_S1x2x1x2_S8x2x8x2_0_1_2_3 (broadcastInDim S1x2x1x2 ![1, 3] bcast_S2x2_S1x2x1x2_1_3 M2))) shapeCasts_S8x2x8x2_S16x16
def K5 : FVec Ideal S32x32 .f32 := shapeCast S32x32 (mulf (φ := .f32) (broadcastInDim S16x2x16x2 ![0, 1, 2, 3] bcast_S16x1x16x1_S16x2x16x2_0_1_2_3 (broadcastInDim S16x1x16x1 ![0, 2] bcast_S16x16_S16x1x16x1_0_2 K4))
  (broadcastInDim S16x2x16x2 ![0, 1, 2, 3] bcast_S1x2x1x2_S16x2x16x2_0_1_2_3 (broadcastInDim S1x2x1x2 ![1, 3] bcast_S2x2_S1x2x1x2_1_3 M2))) shapeCasts_S16x2x16x2_S32x32
def K6 : FVec Ideal S64x64 .f32 := shapeCast S64x64 (mulf (φ := .f32) (broadcastInDim S32x2x32x2 ![0, 1, 2, 3] bcast_S32x1x32x1_S32x2x32x2_0_1_2_3 (broadcastInDim S32x1x32x1 ![0, 2] bcast_S32x32_S32x1x32x1_0_2 K5))
  (broadcastInDim S32x2x32x2 ![0, 1, 2, 3] bcast_S1x2x1x2_S32x2x32x2_0_1_2_3 (broadcastInDim S1x2x1x2 ![1, 3] bcast_S2x2_S1x2x1x2_1_3 M2))) shapeCasts_S32x2x32x2_S64x64
def K7 : FVec Ideal S128x128 .f32 := shapeCast S128x128 (mulf (φ := .f32) (broadcastInDim S64x2x64x2 ![0, 1, 2, 3] bcast_S64x1x64x1_S64x2x64x2_0_1_2_3 (broadcastInDim S64x1x64x1 ![0, 2] bcast_S64x64_S64x1x64x1_0_2 K6))
  (broadcastInDim S64x2x64x2 ![0, 1, 2, 3] bcast_S1x2x1x2_S64x2x64x2_0_1_2_3 (broadcastInDim S1x2x1x2 ![1, 3] bcast_S2x2_S1x2x1x2_1_3 M2))) shapeCasts_S64x2x64x2_S128x128
/-- The normalised sign matrix. -/
def KN : FVec Ideal S128x128 .f32 := mulf (φ := .f32) K7 (broadcastInDim S128x128 ![] bcast_S_S128x128 (constant S_ .f32 0x3DB504F3#32))
/-- The signed input, group by group. -/
def XS (x : FVec Ideal S1x8192x7424 .bf16) (s : FVec Ideal S7424 .f32) : FVec Ideal S1x8192x58x128 .f32 :=
  shapeCast S1x8192x58x128 (mulf (φ := .f32) (extf .f32 x bitsLt_bf16_f32) (broadcastInDim S1x8192x7424 ![0, 1, 2] bcast_S1x1x7424_S1x8192x7424_0_1_2
    (broadcastInDim S1x1x7424 ![2] bcast_S7424_S1x1x7424_2 s))) shapeCasts_S1x8192x7424_S1x8192x58x128
/-- The rotated input. -/
def XR (x : FVec Ideal S1x8192x7424 .bf16) (s : FVec Ideal S7424 .f32) : FVec Ideal S8192x7424 .f32 :=
  shapeCast S8192x7424 (Host.dotGeneral (φ₁ := .f32) (φ₂ := .f32) dot_S1x8192x58x128_S128x128_S1x8192x58x128_3_0_012_1_n_n (some .fp32) (XS x s) KN) shapeCasts_S1x8192x58x128_S8192x7424

/-- The one-by-one matrix holds the signs of level 0. -/
theorem K0_sg : IsSg 1 0 K0 := fun a b => by
  show Ideal.ofBits .f32 0x3F800000#32 = _
  rw [Ideal.ofBits_one_f32]
  simp [sg]
/-- The word of minus one. -/
theorem ofBits_neg_one : Ideal.ofBits .f32 0xBF800000#32 = ((-1 : ℝ) : EReal) := by
  simp [Ideal.ofBits, Ideal.ieee, -EReal.coe_mul]; try norm_num
/-- The two-by-two matrix holds the signs of level 1. -/
theorem M2_sg : IsSg 2 1 M2 := fun a b => by
  have e : S2x2.rowMajor (ix2 a b) = (⟨a.val * 2 + b.val, by omega⟩ : Fin 4) := Fin.ext (Shape.rowMajor_val_two (ix2 a b))
  have h : M2 (ix2 a b) = Ideal.ofBits .f32 (lit0 (⟨a.val * 2 + b.val, by omega⟩ : Fin 4)) := congrArg (fun q => Ideal.ofBits .f32 (lit0 q)) e
  rw [h]
  clear h e
  have l0 : lit0 (0 : Fin 4) = 0x3F800000#32 := rfl
  have l1 : lit0 (1 : Fin 4) = 0x3F800000#32 := rfl
  have l2 : lit0 (2 : Fin 4) = 0x3F800000#32 := rfl
  have l3 : lit0 (3 : Fin 4) = 0xBF800000#32 := rfl
  fin_cases a <;> fin_cases b <;> simp [l0, l1, l2, l3, Ideal.ofBits_one_f32, ofBits_neg_one, sg]

/-- The matrix of level 1 holds its signs. -/
theorem K1_sg : IsSg 2 1 K1 := IsSg.first K0 M2 K0_sg M2_sg _ _ _ _
/-- The matrix of level 2 holds its signs. -/
theorem K2_sg : IsSg 4 2 K2 := IsSg.step (n := 2) rfl (by decide) K1 M2 K1_sg M2_sg _ _ _ _ _
/-- The matrix of level 3 holds its signs. -/
theorem K3_sg : IsSg 8 3 K3 := IsSg.step (n := 4) rfl (by decide) K2 M2 K2_sg M2_sg _ _ _ _ _
/-- The matrix of level 4 holds its signs. -/
theorem K4_sg : IsSg 16 4 K4 := IsSg.step (n := 8) rfl (by decide) K3 M2 K3_sg M2_sg _ _ _ _ _
/-- The matrix of level 5 holds its signs. -/
theorem K5_sg : IsSg 32 5 K5 := IsSg.step (n := 16) rfl (by decide) K4 M2 K4_sg M2_sg _ _ _ _ _
/-- The matrix of level 6 holds its signs. -/
theorem K6_sg : IsSg 64 6 K6 := IsSg.step (n := 32) rfl (by decide) K5 M2 K5_sg M2_sg _ _ _ _ _
/-- The matrix of level 7 holds its signs. -/
theorem K7_sg : IsSg 128 7 K7 := IsSg.step (n := 64) rfl (by decide) K6 M2 K6_sg M2_sg _ _ _ _ _
/-- An entry of the normalised sign matrix. -/
theorem KN_at (a b : Fin 128) : (KN (ix2 a b) : EReal) = (((sg 7 a.val b.val : ℤ) * cN : ℝ) : EReal) := by
  unfold KN
  rw [ValueIdx.mulf_apply, K7_sg a b]
  show _ * Ideal.ofBits .f32 0x3DB504F3#32 = _
  rw [ofBits_cN, ← EReal.coe_mul]

/-- An entry of the signed input. -/
theorem XS_at (x : FVec Ideal S1x8192x7424 .bf16) (s : FVec Ideal S7424 .f32) (r : Fin 8192) (g : Fin 58) (k : Fin 128) (d : Fin 7424) (hd : d.val = 128 * g.val + k.val) :
    (XS x s (ix4 (0 : Fin 1) r g k) : EReal) = (x (ix3 (0 : Fin 1) r d) : EReal) * s (ix1 d) := by
  unfold XS
  rw [shapeCast_apply _ _ _ (ix3 (0 : Fin 1) r d)]
  · rw [ValueIdx.mulf_apply]
    rw [broadcastInDim_apply _ bcast_S1x1x7424_S1x8192x7424_0_1_2 _ _ (ix3 (0 : Fin 1) (0 : Fin 1) d)]
    · rw [broadcastInDim_apply _ bcast_S7424_S1x1x7424_2 _ _ (ix1 d)]
      · rfl
      · intro f; fin_cases f; rfl
    · intro f; fin_cases f <;> rfl
  · refine (Shape.rowMajor_val_three (ix3 (0 : Fin 1) r d)).trans (Eq.trans ?_ (Shape.rowMajor_val_four (ix4 (0 : Fin 1) r g k)).symm)
    show (0 * 8192 + r.val) * 7424 + d.val = ((0 * 8192 + r.val) * 58 + g.val) * 128 + k.val
    omega

/-- The product at an index, as a sum over the group. -/
theorem dot_at (A : FVec Ideal S1x8192x58x128 .f32) (B : FVec Ideal S128x128 .f32) (r : Fin 8192) (g : Fin 58) (j : Fin 128) :
    (Host.dotGeneral (F := Ideal) (φ₁ := .f32) (φ₂ := .f32) dot_S1x8192x58x128_S128x128_S1x8192x58x128_3_0_012_1_n_n (some .fp32) A B (ix4 (0 : Fin 1) r g j) : EReal)
      = ∑ k : Fin 128, (A (ix4 (0 : Fin 1) r g k) : EReal) * B (ix2 k j) := by
  simp only [Host.dotGeneral]
  have hr : (dot_S1x8192x58x128_S128x128_S1x8192x58x128_3_0_012_1_n_n).contr.rank = 1 := rfl
  have hs : (dot_S1x8192x58x128_S128x128_S1x8192x58x128_3_0_012_1_n_n).contr.size ⟨0, by omega⟩ = 128 := rfl
  rw [Ideal.dotGeneral_apply, ← Equiv.sum_comp (contrEquiv1 _ 128 hr hs).symm]
  refine Finset.sum_congr rfl fun k _ => ?_
  have hk := contrEquiv1_symm_val _ 128 hr hs k
  generalize (contrEquiv1 _ 128 hr hs).symm k = q at hk ⊢
  have el : (dot_S1x8192x58x128_S128x128_S1x8192x58x128_3_0_012_1_n_n).lhsIdx (ix4 (0 : Fin 1) r g j) q = ix4 (0 : Fin 1) r g k := by
    funext a; apply Fin.ext
    match a with
    | ⟨0, _⟩ => rfl
    | ⟨1, _⟩ => rfl
    | ⟨2, _⟩ => rfl
    | ⟨3, _⟩ => exact hk
  have er : (dot_S1x8192x58x128_S128x128_S1x8192x58x128_3_0_012_1_n_n).rhsIdx (ix4 (0 : Fin 1) r g j) q = ix2 k j := by
    funext a; apply Fin.ext
    match a with
    | ⟨0, _⟩ => exact hk
    | ⟨1, _⟩ => rfl
  rw [el, er]

/-- The rotated input at a row and a column. -/
theorem XR_at (x : FVec Ideal S1x8192x7424 .bf16) (s : FVec Ideal S7424 .f32) (Y : ℕ → ℕ → ℝ)
    (hY : ∀ (r : Fin 8192) (d : Fin 7424), (x (ix3 (0 : Fin 1) r d) : EReal) * s (ix1 d) = ((Y r.val d.val : ℝ) : EReal)) (r : Fin 8192) (d : Fin 7424) :
    (XR x s (ix2 r d) : EReal) = ((hd (Y r.val) d.val * cN : ℝ) : EReal) := by
  have dl := d.isLt
  unfold XR
  rw [shapeCast_apply _ _ _ (ix4 (0 : Fin 1) r (⟨d.val / 128, by omega⟩ : Fin 58) (⟨d.val % 128, by omega⟩ : Fin 128))]
  · rw [dot_at]
    have e : ∀ k : Fin 128, (XS x s (ix4 (0 : Fin 1) r (⟨d.val / 128, by omega⟩ : Fin 58) k) : EReal) * KN (ix2 k (⟨d.val % 128, by omega⟩ : Fin 128))
        = ((Y r.val (128 * (d.val / 128) + k.val) * ((sg 7 k.val (d.val % 128) : ℤ) * cN) : ℝ) : EReal) := fun k => by
      have kl := k.isLt
      rw [XS_at x s r _ k ⟨128 * (d.val / 128) + k.val, by omega⟩ rfl, hY, KN_at, ← EReal.coe_mul]
    rw [Finset.sum_congr rfl fun k _ => e k, coe_sum]
    refine congrArg (fun z : ℝ => (z : EReal)) ?_
    unfold hd had
    rw [Finset.sum_mul]
    refine Finset.sum_congr rfl fun k _ => ?_
    rw [sg_comm 7 k.val]
    ring
  · refine (Shape.rowMajor_val_four (ix4 (0 : Fin 1) r (⟨d.val / 128, by omega⟩ : Fin 58) (⟨d.val % 128, by omega⟩ : Fin 128))).trans (Eq.trans ?_ (Shape.rowMajor_val_two (ix2 r d)).symm)
    show ((0 * 8192 + r.val) * 58 + d.val / 128) * 128 + d.val % 128 = r.val * 7424 + d.val
    omega

variable (m : (ℓ : Loc nD τ sig) → Buf (Elt Ideal) ℓ)

/-- The quantiser's input is the rotated input. -/
theorem V_v16 (c : Dev nD) : V m c main_v16 = XR (m ((c : Thread nD τ).loc main_arg0)) (m ((c : Thread nD τ).loc main_arg1)) := by
  unfold V V0
  after_reads_simp
  simp -implicitDefEqProofs only [StableHlo.TRef.toBuf, StableHlo.TRef.ofBuf, cast_cast, cast_eq]
  rfl

end Cert.RotateRefIdeal.Hand
end
-- ==== Proof.RefMainVal.lean ====
module

public import proofs.«01_k».proof.Proof.RefHost

@[expose] public section

set_option maxRecDepth 16384
set_option maxHeartbeats 4000000
/-! The reference's two result arrays over the extended reals: the codes and the scales of the signed rows. -/

noncomputable section

namespace Cert.RotateRefIdeal.Hand
open Cert.RotateRefIdeal Cert.RotateRefIdeal.Gen Cert.RotMath
open Idealize.ShloMosaic hiding ix2 eq_ix2 ix3 ix1 ix4 eq_ix4
open Idealize.ShloMosaic.ValueIdx Idealize.ShloMosaic.TcCoe
variable (m : (ℓ : Loc nD τ sig) → Buf (Elt Ideal) ℓ)
/-- The offset of a load or store of a whole buffer is zero. -/
theorem hz : (![0, 0] : Fin 2 → Nat) = fun _ => 0 := funext fun a => by fin_cases a <;> rfl
/-- Every window's one block starts at the array's origin. -/
theorem idx : ∀ t : Fin grid0.N, win0_0.index t 0 = 0 ∧ win0_0.index t 1 = 0 ∧ win0_1.index t 0 = 0
    ∧ win0_1.index t 1 = 0 ∧ win0_2.index t 0 = 0 ∧ win0_2.index t 1 = 0 := by decide +kernel

/-- The two arguments. -/
abbrev xOf (c : Dev nD) : FVec Ideal S1x8192x7424 .bf16 := m ((c : Thread nD τ).loc main_arg0)
abbrev sOf (c : Dev nD) : FVec Ideal S7424 .f32 := m ((c : Thread nD τ).loc main_arg1)
abbrev blkV (c : Dev nD) (t : Fin cfg0.N) : FVec Ideal S8192x7424 .f32 := iblk m c 0 t
/-- The quantiser reads the rotated input. -/
theorem blk0 (c : Dev nD) (t : Fin cfg0.N) (r : Fin 8192) (d : Fin 7424) :
    blkV m c t (ix2 r d) = XR (m ((c : Thread nD τ).loc main_arg0)) (m ((c : Thread nD τ).loc main_arg1)) (ix2 r d) := by
  obtain ⟨i00, i01, -⟩ := idx t
  unfold blkV iblk
  have e : V m c (Pipeline.arrRef spec0 0) = XR (m ((c : Thread nD τ).loc main_arg0)) (m ((c : Thread nD τ).loc main_arg1)) := V_v16 m c
  rw [e]
  generalize XR (m ((c : Thread nD τ).loc main_arg0)) (m ((c : Thread nD τ).loc main_arg1)) = W
  show W ((win0_0.blk t).view.emb (ix2 r d)) = W (ix2 r d)
  refine congrArg W ?_
  have e0 : ((win0_0.blk t).view.emb (ix2 r d) 0 : ℕ) = r.val := by blk_simp; rw [i00]; exact (Nat.zero_mul 8192).symm ▸ Nat.zero_add r.val
  have e1 : ((win0_0.blk t).view.emb (ix2 r d) 1 : ℕ) = d.val := by blk_simp; rw [i01]; exact (Nat.zero_mul 7424).symm ▸ Nat.zero_add d.val
  generalize (win0_0.blk t).view.emb (ix2 r d) = z at e0 e1 ⊢
  refine (eq_ix2 z).trans ?_
  rw [show z 0 = r from Fin.ext e0, show z 1 = d from Fin.ext e1]
  rfl

section
variable (c : Dev nD) (Y : ℕ → ℕ → ℝ)
    (hY : ∀ (r : Fin 8192) (d : Fin 7424), (xOf m c (ix3 (0 : Fin 1) r d) : EReal) * sOf m c (ix1 d) = ((Y r.val d.val : ℝ) : EReal))
    (hB : ∀ (r : Fin 8192) (d : Fin 7424), |Y r.val d.val| ≤ (2 : ℝ) ^ (100 : ℤ))

include hY
/-- The quantiser's input at an index, as a real. -/
theorem hV (t : Fin cfg0.N) (r : Fin 8192) (d : Fin 7424) : (blkV m c t (ix2 r d) : EReal) = ((hd (Y r.val) d.val * cN : ℝ) : EReal) := by
  rw [blk0 m c t r d]
  exact XR_at _ _ Y hY r d

include hB
/-- The codes after the run. -/
theorem final1 : (dats m 0 c).arrAt 1 cfg0.N = (fun z => codeOf (Y (z 0).val) (z 1).val : FVec Ideal S8192x7424 .fp8e4m3) := by
  refine (dats m 0 c).arrAt_eq_of_covers 1 _ (by decide +kernel) fun t hf y => ?_
  blk_simp
  rw [after0_1]
  unfold out0_1
  rw [View.canon_unit_zero hz, View.ld_unit_zero hz]
  obtain ⟨-, -, i10, i11, i20, i21⟩ := idx t
  rw [i10, i11, Nat.zero_mul, Nat.zero_add, Nat.zero_add]
  have h := pay3_at (blkV m c t) Y (hV m c Y hY t) hB (y 0) (y 1)
  exact (congrArg (k0_pay3 (F := Ideal) (blkV m c t)) (eq_ix2 y)).trans h

/-- The scales after the run, one a row. -/
theorem final2 : (dats m 0 c).arrAt 2 cfg0.N = (fun z => scaleOf (Y (z 0).val) : FVec Ideal S8192x1 .f32) := by
  refine (dats m 0 c).arrAt_eq_of_covers 2 _ (by decide +kernel) fun t hf y => ?_
  blk_simp
  rw [after0_2]
  unfold out0_2
  rw [View.canon_unit_zero hz, View.ld_unit_zero hz]
  obtain ⟨-, -, i10, i11, i20, i21⟩ := idx t
  rw [i20, Nat.zero_mul, Nat.zero_add]
  have h := pay2_at (blkV m c t) Y (hV m c Y hY t) hB (y 0)
  have y1 : y 1 = (0 : Fin 1) := Fin.ext (by have : (y 1).val < 1 := (y 1).isLt; show (y 1).val = 0; omega)
  exact (congrArg (k0_pay2 (F := Ideal) (blkV m c t)) ((eq_ix2 y).trans (congrArg (ix2 (y 0)) y1))).trans h
end
end Cert.RotateRefIdeal.Hand
end
-- ==== Proof.RotClaim.lean ====
module

public import proofs.«01_k».proof.Defs
public import proofs.«01_k».proof.Proof.Gen.Pre_in_range
public import proofs.«01_k».proof.Proof.RotMainVal
public import proofs.«01_k».proof.Proof.RefMainVal

@[expose] public section

set_option maxRecDepth 16384
set_option maxHeartbeats 4000000

/-! The rotate call's claims: what the precondition gives, and the two runs read at one value. -/

noncomputable section

open Idealize.ShloMosaic hiding ix2 eq_ix2 ix3 ix1 ix4 eq_ix4
open Idealize.ShloMosaic.ValueIdx Idealize.ShloMosaic.TcCoe Idealize.SL.Sem

namespace Cert.RotMath

/-- The bound the precondition names. -/
theorem ofBits_big : Ideal.ofBits .f32 0x71800000#32 = (((2 : ℝ) ^ (100 : ℤ) : ℝ) : EReal) := by
  rw [show (2 : ℝ) ^ (100 : ℤ) = 1267650600228229401496703205376 by norm_num]
  simp [Ideal.ofBits, Ideal.ieee, -EReal.coe_mul]; try norm_num

/-- A comparison that came out one holds. -/
theorem le_of_cmp {a b : EReal} (h : (FloatOps.cmpf (F := Ideal) (φ := .f32) .ole a b) = 1#1) : a ≤ b := by
  by_contra hn
  have : (FloatOps.cmpf (F := Ideal) (φ := .f32) .ole a b) = 0#1 := by
    show Ideal.cmp .ole a b = 0#1
    simp [Ideal.cmp, hn]
  rw [this] at h
  exact absurd h (by decide)

/-- A magnitude at most a real is of a real. -/
theorem real_of_abs {a : EReal} {b : ℝ} (h : max a (-a) ≤ (b : EReal)) : ∃ v : ℝ, a = (v : EReal) ∧ |v| ≤ b := by
  induction a using EReal.rec with
  | bot => simp at h
  | top => simp at h
  | coe v =>
    refine ⟨v, rfl, ?_⟩
    have h1 : v ≤ b := EReal.coe_le_coe_iff.mp ((le_max_left _ _).trans h)
    have h2 : -v ≤ b := by
      have := (le_max_right _ _).trans h
      rw [← EReal.coe_neg] at this
      exact EReal.coe_le_coe_iff.mp this
    exact abs_le.mpr ⟨by linarith, h1⟩

/-- The signed input over the naturals. -/
def YY (x : FVec Ideal ⟨3, ![1, 8192, 7424]⟩ .bf16) (s : FVec Ideal ⟨1, ![7424]⟩ .f32) (r d : ℕ) : ℝ :=
  if h : r < 8192 ∧ d < 7424 then ((x (ix3 (0 : Fin 1) (⟨r, h.1⟩ : Fin 8192) (⟨d, h.2⟩ : Fin 7424)) : EReal) * s (ix1 (⟨d, h.2⟩ : Fin 7424))).toReal else 0

/-- Inputs in range have real, bounded products. -/
theorem YY_spec (x : FVec Ideal ⟨3, ![1, 8192, 7424]⟩ .bf16) (s : FVec Ideal ⟨1, ![7424]⟩ .f32)
    (hp : (Cert.Pre_in_range.fn (F := Ideal) x s).1 = (fun _ => 1#1) ∧ (Cert.Pre_in_range.fn (F := Ideal) x s).2 = (fun _ => 1#1))
    (r : Fin 8192) (d : Fin 7424) :
    (x (ix3 (0 : Fin 1) r d) : EReal) * s (ix1 d) = ((YY x s r.val d.val : ℝ) : EReal) ∧ |YY x s r.val d.val| ≤ (2 : ℝ) ^ (100 : ℤ) := by
  have h1 := congrFun hp.1 (ix3 (0 : Fin 1) r d)
  have h2 := congrFun hp.2 (ix1 d)
  have a1 : max (x (ix3 (0 : Fin 1) r d) : EReal) (-(x (ix3 (0 : Fin 1) r d) : EReal)) ≤ Ideal.ofBits .f32 0x71800000#32 := le_of_cmp h1
  have a2 : max (s (ix1 d) : EReal) (-(s (ix1 d) : EReal)) ≤ Ideal.ofBits .f32 0x3F800000#32 := le_of_cmp h2
  rw [ofBits_big] at a1
  rw [Ideal.ofBits_one_f32] at a2
  obtain ⟨u, hu, bu⟩ := real_of_abs a1
  obtain ⟨w, hw, bw⟩ := real_of_abs (b := 1) a2
  have e : YY x s r.val d.val = u * w := by
    unfold YY
    rw [dif_pos ⟨r.isLt, d.isLt⟩]
    show ((x (ix3 (0 : Fin 1) r d) : EReal) * s (ix1 d)).toReal = u * w
    rw [hu, hw, ← EReal.coe_mul, EReal.toReal_coe]
  rw [e, hu, hw, ← EReal.coe_mul]
  refine ⟨rfl, ?_⟩
  rw [abs_mul]
  exact (mul_le_of_le_one_right (abs_nonneg u) bw).trans bu

end Cert.RotMath

namespace Cert.RotateIdeal.Hand
open Cert.RotateIdeal Cert.RotateIdeal.Gen Cert.RotMath

/-- The kernel runs, its arguments and counters as the frame claims them. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) fun _ _ => rfl) (run_main (F := Ideal) m ρ)

/-- The run's arrays. -/
theorem arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = (dats m 0 c).arrAt 2 cfg0.N
      ∧ r.2.mem ((c.tc : Thread nD τ).loc main_v2_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c).1 2, (h.1 c).1 3,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c)⟩) (run_main m ρ)

end Cert.RotateIdeal.Hand

namespace Cert.RotateRefIdeal.Hand
open Cert.RotateRefIdeal Cert.RotateRefIdeal.Gen Cert.RotMath

/-- The last host line lays the column of scales out as 32 blocks of two rows. -/
theorem tail (m : (ℓ : Loc nD τ sig) → Buf (Elt Ideal) ℓ) (c : Dev nD) :
    Pipeline.afterTail₀ cfgs (dats m) 0 (V0 m) [hostOps1] c main_v18 = shapeCast S32x2x128 ((dats m 0 c).arrAt 2 cfg0.N : FVec Ideal S8192x1 .f32) shapeCasts_S8192x1_S32x2x128 := by
  unfold Pipeline.afterTail₀
  have e := Pipeline.withArrays_arr spec0 (by decide) c (V0 m c) (fun w => (dats m 0 c).arrAt w cfg0.N) 2
  have e' : Pipeline.withArrays (cfgs 0).spec c (V0 m c) (fun w => (dats m 0 c).arrAt w (cfgs 0).N) (Proc.devRef .tc main_v17_1) = (dats m 0 c).arrAt 2 cfg0.N := e
  generalize Pipeline.withArrays (cfgs 0).spec c (V0 m c) (fun w => (dats m 0 c).arrAt w (cfgs 0).N) = W at e' ⊢
  generalize (dats m 0 c).arrAt 2 cfg0.N = A at e' ⊢
  after_reads_simp
  rw [e']
  rfl

/-- The run, with both results and both arguments read. -/
theorem arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v17_0) = (dats m 0 c).arrAt 1 cfg0.N
      ∧ r.2.mem ((c.tc : Thread nD τ).loc main_v18) = shapeCast S32x2x128 ((dats m 0 c).arrAt 2 cfg0.N : FVec Ideal S8192x1 .f32) shapeCasts_S8192x1_S32x2x128
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 1,
    ((h c).2 main_v18 (Pipeline.mem_restRefs_of main_v18 (by decide) (by decide))).trans (tail m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

/-- The scales laid out. -/
theorem cast_at (Y : ℕ → ℕ → ℝ) : shapeCast S32x2x128 (fun z => scaleOf (Y (z 0).val) : FVec Ideal S8192x1 .f32) shapeCasts_S8192x1_S32x2x128
    = (fun z => scaleOf (Y (256 * (z 0).val + 128 * (z 1).val + (z 2).val)) : FVec Ideal S32x2x128 .f32) := by
  funext z
  have z0 : (z 0).val < 32 := (z 0).isLt
  have z1 : (z 1).val < 2 := (z 1).isLt
  have z2 : (z 2).val < 128 := (z 2).isLt
  refine shapeCast_apply _ _ z (ix2 (⟨256 * (z 0).val + 128 * (z 1).val + (z 2).val, by omega⟩ : Fin 8192) (0 : Fin 1)) ?_
  refine (Shape.rowMajor_val_two (ix2 (⟨256 * (z 0).val + 128 * (z 1).val + (z 2).val, by omega⟩ : Fin 8192) (0 : Fin 1))).trans (Eq.trans ?_ (Shape.rowMajor_val_three (d := ![32, 2, 128]) z).symm)
  show (256 * (z 0).val + 128 * (z 1).val + (z 2).val) * 1 + 0 = ((z 0).val * 2 + (z 1).val) * 128 + (z 2).val
  omega

end Cert.RotateRefIdeal.Hand

namespace Cert.Proof
open Cert.RotMath

/-- The two programs end with equal codes and equal scales over the extended reals, for inputs in range. -/
theorem rotate_algebraic : Cert.algebraic_RotateIdeal_RotateRefIdeal_pre_in_range := by
  intro m ρ m' ρ' hp hag
  have hs := fun c => YY_spec (Cert.RotateIdeal.Hand.xOf m c) (Cert.RotateIdeal.Hand.sOf m c) (hp c)
  refine ⟨_, _, (θ_run Cert.RotateIdeal.defs _ _).mono (fun _ h c => ⟨(h c).1.trans (Cert.RotateIdeal.Hand.final2 m c _ (fun r d => (hs c r d).1) (fun r d => (hs c r d).2)),
    (h c).2.1.trans (Cert.RotateIdeal.Hand.final3 m c _ (fun r d => (hs c r d).1) (fun r d => (hs c r d).2)), (h c).2.2⟩) (Cert.RotateIdeal.Hand.arrays m ρ),
    (θ_run Cert.RotateRefIdeal.defs _ _).mono (fun _ h c => ?_) (Cert.RotateRefIdeal.Hand.arrays m' ρ')⟩
  have hy : ∀ (r : Fin 8192) (d : Fin 7424), (Cert.RotateRefIdeal.Hand.xOf m' c (ix3 (0 : Fin 1) r d) : EReal) * Cert.RotateRefIdeal.Hand.sOf m' c (ix1 d)
      = ((YY (Cert.RotateIdeal.Hand.xOf m c) (Cert.RotateIdeal.Hand.sOf m c) r.val d.val : ℝ) : EReal) := fun r d => by
    have e0 : Cert.RotateRefIdeal.Hand.xOf m' c = Cert.RotateIdeal.Hand.xOf m c := (hag c).1
    have e1 : Cert.RotateRefIdeal.Hand.sOf m' c = Cert.RotateIdeal.Hand.sOf m c := (hag c).2
    rw [e0, e1]
    exact (hs c r d).1
  refine ⟨(h c).1.trans (Cert.RotateRefIdeal.Hand.final1 m' c _ hy (fun r d => (hs c r d).2)), (h c).2.1.trans ?_, (h c).2.2⟩
  rw [Cert.RotateRefIdeal.Hand.final2 m' c _ hy (fun r d => (hs c r d).2)]
  exact Cert.RotateRefIdeal.Hand.cast_at _

end Cert.Proof
end
-- ==== Proof.lean ====
module

public import proofs.«01_k».proof.Defs
public import proofs.«01_k».proof.Proof.Gen.Linear
public import proofs.«01_k».proof.Proof.Gen.Linear.Skeleton
public import proofs.«01_k».proof.Proof.Gen.Linear.Launch
public import proofs.«01_k».proof.Proof.Gen.Linear.Points
public import proofs.«01_k».proof.Proof.Gen.Linear.Frame
public import proofs.«01_k».proof.Proof.Gen.LinearIdeal
public import proofs.«01_k».proof.Proof.Gen.LinearIdeal.Skeleton
public import proofs.«01_k».proof.Proof.Gen.LinearIdeal.Launch
public import proofs.«01_k».proof.Proof.Gen.LinearIdeal.Points
public import proofs.«01_k».proof.Proof.Gen.LinearIdeal.Frame
public import proofs.«01_k».proof.Proof.Gen.LinearIdeal.Value
public import proofs.«01_k».proof.Proof.Gen.LinearRefIdeal
public import proofs.«01_k».proof.Proof.Gen.LinearRefIdeal.Skeleton
public import proofs.«01_k».proof.Proof.Gen.LinearRefIdeal.Launch
public import proofs.«01_k».proof.Proof.Gen.LinearRefIdeal.Points
public import proofs.«01_k».proof.Proof.Gen.LinearRefIdeal.Frame
public import proofs.«01_k».proof.Proof.Gen.LinearRefIdeal.Value
public import proofs.«01_k».proof.Proof.Gen.Rotate
public import proofs.«01_k».proof.Proof.Gen.RotateIdeal
public import proofs.«01_k».proof.Proof.Gen.RotateRefIdeal
public import proofs.«01_k».proof.Proof.Gen.RotateRefIdeal.Frame
public import proofs.«01_k».proof.Proof.Gen.Pre_in_range
public import proofs.«01_k».proof.Proof.LinKernel
public import proofs.«01_k».proof.Proof.LinRef
public import proofs.«01_k».proof.Proof.BitMain
public import proofs.«01_k».proof.Proof.RotClaim
public import Idealize.ShloMosaic.Adequacy
public import Idealize.ShloMosaic.Init

@[expose] public section

noncomputable section

namespace Cert.Proof

open Idealize.ShloMosaic Idealize.SL.Sem Cert.Linear

/-- The two programs end with equal results over the extended reals: both results are the product of the codes and the
    weights, each entry times its row's scale and its column's scale. -/
theorem linear_algebraic : Cert.algebraic_LinearIdeal_LinearRefIdeal := by
  intro m ρ m' ρ' _ hag
  refine ⟨fun c => Cert.LinearIdeal.Block.out m c, Cert.LinearIdeal.Block.run m ρ,
    (θ_run Cert.LinearRefIdeal.defs _ _).mono (fun _ h c => ⟨(h c).1.trans ?_, (h c).2⟩)
      (Cert.LinearRefIdeal.Block.run m' ρ')⟩
  unfold Cert.LinearRefIdeal.Block.out Cert.LinearRefIdeal.Block.wrow
  rw [(hag c).1, (hag c).2.1, (hag c).2.2.1, (hag c).2.2.2]

/-- The rotation call runs at machine values, its arguments kept and every counter back at zero. -/
theorem rotate_frame (m : (ℓ : Loc Cert.Rotate.nD Cert.Rotate.τ Cert.Rotate.sig) → Buf (Elt Bits) ℓ) (ρ : Dev Cert.Rotate.nD → PrngReg) :
    θ_run Cert.Rotate.defs (onTc (τ := Cert.Rotate.τ) (Cert.Rotate.main (F := Bits))) ⟨m, fun _ => 0, ρ⟩ (fun r =>
      (∀ c : Dev Cert.Rotate.nD,
        r.2.mem ((c.tc : Thread Cert.Rotate.nD Cert.Rotate.τ).loc Cert.Rotate.main_arg0) = m ((c.tc : Thread Cert.Rotate.nD Cert.Rotate.τ).loc Cert.Rotate.main_arg0)
        ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0) :=
  θ_run_with_sems (Cert.Rotate.Gen.frame_of m ρ (Cert.Rotate.Hand.dats m) fun _ _ => rfl) (Cert.Rotate.Hand.run_main (F := Bits) m ρ)

/-- Everything the certificate claims: the frames of the six programs; the idealisations rewrote nothing; and each call's
    results are its reference's, the rotation's for inputs in range. -/
theorem claim : Cert.Claim := ⟨Cert.Linear.Gen.facts, Cert.LinearIdeal.Gen.facts, Cert.LinearRefIdeal.Gen.facts,
  Cert.Rotate.Gen.facts, Cert.RotateIdeal.Gen.facts, Cert.RotateRefIdeal.Gen.facts, Cert.Pre_in_range.Gen.facts,
  fun m ρ _ => Cert.Linear.Gen.frame m ρ, fun m ρ _ => Cert.LinearIdeal.Gen.frame m ρ,
  fun m ρ _ => Cert.LinearRefIdeal.Gen.frame m ρ,
  fun m ρ _ => rotate_frame m ρ, fun m ρ _ => Cert.RotateIdeal.Hand.frame m ρ, fun m ρ _ => Cert.RotateIdeal.Hand.frame m ρ,
  fun m ρ _ => Cert.RotateRefIdeal.Gen.frame m ρ, fun m ρ _ => Cert.RotateRefIdeal.Gen.frame m ρ,
  trivial, linear_algebraic, trivial, rotate_algebraic⟩

end Cert.Proof

end
